-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 8192]⟩ ⟨2, ![8192, 8192]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![8192, 256]⟩ ⟨2, ![8192, 4096]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 256]⟩ ⟨2, ![8192, 4096]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x8192 : Shape := ⟨2, ![512, 8192]⟩
abbrev S8192x256 : Shape := ⟨2, ![8192, 256]⟩
abbrev S3x256x8192 : Shape := ⟨3, ![3, 256, 8192]⟩
abbrev S3 : Shape := ⟨1, ![3]⟩
abbrev S_ : Shape := ⟨0, ![]⟩
abbrev S256x8192 : Shape := ⟨2, ![256, 8192]⟩
abbrev S1x256x8192 : Shape := ⟨3, ![1, 256, 8192]⟩
abbrev S1 : Shape := ⟨1, ![1]⟩
abbrev S256x256 : Shape := ⟨2, ![256, 256]⟩

abbrev nBuf : Space → Nat
  | .hbm => 3
  | .vmem => 5
  | .smem => 0
  | _ => 0

abbrev bufTy : (tb : Table) → Fin (tcTables nBuf tb) → BufTy
  | .hbm, ⟨0, _⟩ => ⟨S512x8192, .f32⟩
  | .hbm, ⟨1, _⟩ => ⟨S8192x256, .f32⟩
  | .hbm, ⟨2, _⟩ => ⟨S8192x256, .f32⟩
  | .local _ .vmem, ⟨0, _⟩ => ⟨S512x8192, .f32⟩
  | .local _ .vmem, ⟨1, _⟩ => ⟨S8192x256, .f32⟩
  | .local _ .vmem, ⟨2, _⟩ => ⟨S8192x256, .f32⟩
  | .local _ .vmem, ⟨3, _⟩ => ⟨S3x256x8192, .bf16⟩
  | .local _ .vmem, ⟨4, _⟩ => ⟨S3x256x8192, .bf16⟩
  | _, _ => ⟨S512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 3 → Bool
  | ⟨0, _⟩ => true
  | ⟨1, _⟩ => true
  | ⟨2, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 3 15 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_22 : BitVec 32 := 1#32
  let v38 : BitVec 32 := Scalar.muli v13 c1_i32_22
  let v39 : BitVec 32 := Scalar.addi c0_i32_23 v38
  v39.toNat
def k0_dev2 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_25 : BitVec 32 := 1#32
  let v40 : BitVec 32 := Scalar.muli v24 c1_i32_25
  let v41 : BitVec 32 := Scalar.addi c0_i32_26 v40
  v41.toNat
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_31 : BitVec 32 := 1#32
  let v42 : BitVec 32 := Scalar.muli v24 c1_i32_31
  let v43 : BitVec 32 := Scalar.addi c0_i32_32 v42
  v43.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_41 : BitVec 32 := 1#32
  let v52 : BitVec 32 := Scalar.muli v13 c1_i32_41
  let v53 : BitVec 32 := Scalar.addi c0_i32_42 v52
  v53.toNat
def k0_off1 (d0 : Dev nD) (c0_i32_47 : BitVec 32) (c0_i32_63 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v62 : BitVec 32 := Scalar.subi v2 c0_i32_47
  let c16_i32_48 : BitVec 32 := 16#32
  let c0_i32_49 : BitVec 32 := 0#32
  let v63 : BitVec 1 := Scalar.cmpi .eq c16_i32_48 c0_i32_49
  let c1_i32_50 : BitVec 32 := 1#32
  let v64 : BitVec 32 := Scalar.select v63 c1_i32_50 c16_i32_48
  let v65 : BitVec 32 := Scalar.remsi v62 v64
  let c0_i32_52 : BitVec 32 := 0#32
  let v67 : BitVec 1 := Scalar.cmpi .slt v65 c0_i32_52
  let c0_i32_53 : BitVec 32 := 0#32
  let v68 : BitVec 1 := Scalar.cmpi .slt v64 c0_i32_53
  let v69 : BitVec 1 := Scalar.xori v67 v68
  let c0_i32_51 : BitVec 32 := 0#32
  let v66 : BitVec 1 := Scalar.cmpi .ne v65 c0_i32_51
  let v70 : BitVec 1 := Scalar.andi v69 v66
  let v71 : BitVec 32 := Scalar.addi v65 v64
  let v72 : BitVec 32 := Scalar.select v70 v71 v65
  let c512_i32 : BitVec 32 := 512#32
  let v92 : BitVec 32 := Scalar.muli v72 c512_i32
  let v93 : BitVec 32 := Scalar.addi v92 c0_i32_63
  let v94 : Index := Scalar.indexCast v93
  let c0_64 : Index := 0#32
  ![v94.toNat, 0]
def k0_off1_at (r : Fin 16) : BitVec 32 × BitVec 32 :=
  if r.val < 8 then
    if r.val < 4 then
      if r.val < 2 then
        if r.val < 1 then
          (0#32, 0#32)
        else
          (1#32, 0#32)
      else
        if r.val < 3 then
          (2#32, 0#32)
        else
          (3#32, 0#32)
    else
      if r.val < 6 then
        if r.val < 5 then
          (4#32, 0#32)
        else
          (5#32, 0#32)
      else
        if r.val < 7 then
          (6#32, 0#32)
        else
          (7#32, 0#32)
  else
    if r.val < 12 then
      if r.val < 10 then
        if r.val < 9 then
          (8#32, 0#32)
        else
          (9#32, 0#32)
      else
        if r.val < 11 then
          (10#32, 0#32)
        else
          (11#32, 0#32)
    else
      if r.val < 14 then
        if r.val < 13 then
          (12#32, 0#32)
        else
          (13#32, 0#32)
      else
        if r.val < 15 then
          (14#32, 0#32)
        else
          (1#32, 256#32)
def k0_off2 (d0 : Dev nD) (c0_i32_65 : BitVec 32) (c256_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v96 : BitVec 32 := Scalar.addi v2 c0_i32_65
  let c16_i32_66 : BitVec 32 := 16#32
  let c0_i32_67 : BitVec 32 := 0#32
  let v97 : BitVec 1 := Scalar.cmpi .eq c16_i32_66 c0_i32_67
  let c1_i32_68 : BitVec 32 := 1#32
  let v98 : BitVec 32 := Scalar.select v97 c1_i32_68 c16_i32_66
  let v99 : BitVec 32 := Scalar.remsi v96 v98
  let c0_i32_70 : BitVec 32 := 0#32
  let v101 : BitVec 1 := Scalar.cmpi .slt v99 c0_i32_70
  let c0_i32_71 : BitVec 32 := 0#32
  let v102 : BitVec 1 := Scalar.cmpi .slt v98 c0_i32_71
  let v103 : BitVec 1 := Scalar.xori v101 v102
  let c0_i32_69 : BitVec 32 := 0#32
  let v100 : BitVec 1 := Scalar.cmpi .ne v99 c0_i32_69
  let v104 : BitVec 1 := Scalar.andi v103 v100
  let v105 : BitVec 32 := Scalar.addi v99 v98
  let v106 : BitVec 32 := Scalar.select v104 v105 v99
  let c512_i32_82 : BitVec 32 := 512#32
  let v126 : BitVec 32 := Scalar.muli v106 c512_i32_82
  let v127 : BitVec 32 := Scalar.addi v126 c256_i32
  let v128 : Index := Scalar.indexCast v127
  let c0_83 : Index := 0#32
  ![v128.toNat, 0]
def k0_off2_at (r : Fin 16) : BitVec 32 × BitVec 32 :=
  if r.val < 8 then
    if r.val < 4 then
      if r.val < 2 then
        if r.val < 1 then
          (0#32, 256#32)
        else
          (1#32, 256#32)
      else
        if r.val < 3 then
          (2#32, 256#32)
        else
          (3#32, 256#32)
    else
      if r.val < 6 then
        if r.val < 5 then
          (4#32, 256#32)
        else
          (5#32, 256#32)
      else
        if r.val < 7 then
          (6#32, 256#32)
        else
          (7#32, 256#32)
  else
    if r.val < 12 then
      if r.val < 10 then
        if r.val < 9 then
          (8#32, 256#32)
        else
          (9#32, 256#32)
      else
        if r.val < 11 then
          (10#32, 256#32)
        else
          (11#32, 256#32)
    else
      if r.val < 14 then
        if r.val < 13 then
          (12#32, 256#32)
        else
          (13#32, 256#32)
      else
        if r.val < 15 then
          (14#32, 256#32)
        else
          (1#32, 0#32)
def k0_dev5 (d0 : Dev nD) : Nat :=
  let c0_i32_124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_123 : BitVec 32 := 1#32
  let v158 : BitVec 32 := Scalar.muli v13 c1_i32_123
  let v159 : BitVec 32 := Scalar.addi c0_i32_124 v158
  v159.toNat
def k0_dev6 (d0 : Dev nD) : Nat :=
  let c0_i32_127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_126 : BitVec 32 := 1#32
  let v160 : BitVec 32 := Scalar.muli v24 c1_i32_126
  let v161 : BitVec 32 := Scalar.addi c0_i32_127 v160
  v161.toNat
def k0_dev7 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_132 : BitVec 32 := 1#32
  let v162 : BitVec 32 := Scalar.muli v24 c1_i32_132
  let v163 : BitVec 32 := Scalar.addi c0_i32_133 v162
  v163.toNat
def k0_dev8 (d0 : Dev nD) : Nat :=
  let c0_i32_143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_142 : BitVec 32 := 1#32
  let v172 : BitVec 32 := Scalar.muli v13 c1_i32_142
  let v173 : BitVec 32 := Scalar.addi c0_i32_143 v172
  v173.toNat
def k0_dev9 (d0 : Dev nD) : Nat :=
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_226 : BitVec 32 := 1#32
  let v278 : BitVec 32 := Scalar.muli v13 c1_i32_226
  let v279 : BitVec 32 := Scalar.addi c0_i32_227 v278
  v279.toNat
def k0_dev10 (d0 : Dev nD) : Nat :=
  let c0_i32_230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_229 : BitVec 32 := 1#32
  let v280 : BitVec 32 := Scalar.muli v24 c1_i32_229
  let v281 : BitVec 32 := Scalar.addi c0_i32_230 v280
  v281.toNat
def k0_dev11 (d0 : Dev nD) : Nat :=
  let c0_i32_240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_239 : BitVec 32 := 1#32
  let v282 : BitVec 32 := Scalar.muli v24 c1_i32_239
  let v283 : BitVec 32 := Scalar.addi c0_i32_240 v282
  v283.toNat
def k0_dev12 (d0 : Dev nD) : Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_249 : BitVec 32 := 1#32
  let v292 : BitVec 32 := Scalar.muli v13 c1_i32_249
  let v293 : BitVec 32 := Scalar.addi c0_i32_250 v292
  v293.toNat
def k0_dev13 (d0 : Dev nD) : Nat :=
  let c0_i32_334 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_333 : BitVec 32 := 1#32
  let v398 : BitVec 32 := Scalar.muli v13 c1_i32_333
  let v399 : BitVec 32 := Scalar.addi c0_i32_334 v398
  v399.toNat
def k0_dev14 (d0 : Dev nD) : Nat :=
  let c0_i32_337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_336 : BitVec 32 := 1#32
  let v400 : BitVec 32 := Scalar.muli v24 c1_i32_336
  let v401 : BitVec 32 := Scalar.addi c0_i32_337 v400
  v401.toNat
def k0_dev15 (d0 : Dev nD) : Nat :=
  let c0_i32_347 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_346 : BitVec 32 := 1#32
  let v402 : BitVec 32 := Scalar.muli v24 c1_i32_346
  let v403 : BitVec 32 := Scalar.addi c0_i32_347 v402
  v403.toNat
def k0_dev16 (d0 : Dev nD) : Nat :=
  let c0_i32_357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_356 : BitVec 32 := 1#32
  let v412 : BitVec 32 := Scalar.muli v13 c1_i32_356
  let v413 : BitVec 32 := Scalar.addi c0_i32_357 v412
  v413.toNat
def k0_dev17 (d0 : Dev nD) : Nat :=
  let c0_i32_441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_440 : BitVec 32 := 1#32
  let v518 : BitVec 32 := Scalar.muli v13 c1_i32_440
  let v519 : BitVec 32 := Scalar.addi c0_i32_441 v518
  v519.toNat
def k0_dev18 (d0 : Dev nD) : Nat :=
  let c0_i32_444 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_443 : BitVec 32 := 1#32
  let v520 : BitVec 32 := Scalar.muli v24 c1_i32_443
  let v521 : BitVec 32 := Scalar.addi c0_i32_444 v520
  v521.toNat
def k0_dev19 (d0 : Dev nD) : Nat :=
  let c0_i32_454 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_453 : BitVec 32 := 1#32
  let v522 : BitVec 32 := Scalar.muli v24 c1_i32_453
  let v523 : BitVec 32 := Scalar.addi c0_i32_454 v522
  v523.toNat
def k0_dev20 (d0 : Dev nD) : Nat :=
  let c0_i32_464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_463 : BitVec 32 := 1#32
  let v532 : BitVec 32 := Scalar.muli v13 c1_i32_463
  let v533 : BitVec 32 := Scalar.addi c0_i32_464 v532
  v533.toNat
def k0_dev21 (d0 : Dev nD) : Nat :=
  let c0_i32_548 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_547 : BitVec 32 := 1#32
  let v638 : BitVec 32 := Scalar.muli v13 c1_i32_547
  let v639 : BitVec 32 := Scalar.addi c0_i32_548 v638
  v639.toNat
def k0_dev22 (d0 : Dev nD) : Nat :=
  let c0_i32_551 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_550 : BitVec 32 := 1#32
  let v640 : BitVec 32 := Scalar.muli v24 c1_i32_550
  let v641 : BitVec 32 := Scalar.addi c0_i32_551 v640
  v641.toNat
def k0_dev23 (d0 : Dev nD) : Nat :=
  let c0_i32_561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_560 : BitVec 32 := 1#32
  let v642 : BitVec 32 := Scalar.muli v24 c1_i32_560
  let v643 : BitVec 32 := Scalar.addi c0_i32_561 v642
  v643.toNat
def k0_dev24 (d0 : Dev nD) : Nat :=
  let c0_i32_571 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_570 : BitVec 32 := 1#32
  let v652 : BitVec 32 := Scalar.muli v13 c1_i32_570
  let v653 : BitVec 32 := Scalar.addi c0_i32_571 v652
  v653.toNat
def k0_dev25 (d0 : Dev nD) : Nat :=
  let c0_i32_655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_654 : BitVec 32 := 1#32
  let v758 : BitVec 32 := Scalar.muli v13 c1_i32_654
  let v759 : BitVec 32 := Scalar.addi c0_i32_655 v758
  v759.toNat
def k0_dev26 (d0 : Dev nD) : Nat :=
  let c0_i32_658 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_657 : BitVec 32 := 1#32
  let v760 : BitVec 32 := Scalar.muli v24 c1_i32_657
  let v761 : BitVec 32 := Scalar.addi c0_i32_658 v760
  v761.toNat
def k0_dev27 (d0 : Dev nD) : Nat :=
  let c0_i32_668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_667 : BitVec 32 := 1#32
  let v762 : BitVec 32 := Scalar.muli v24 c1_i32_667
  let v763 : BitVec 32 := Scalar.addi c0_i32_668 v762
  v763.toNat
def k0_dev28 (d0 : Dev nD) : Nat :=
  let c0_i32_678 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_677 : BitVec 32 := 1#32
  let v772 : BitVec 32 := Scalar.muli v13 c1_i32_677
  let v773 : BitVec 32 := Scalar.addi c0_i32_678 v772
  v773.toNat
def k0_dev29 (d0 : Dev nD) : Nat :=
  let c0_i32_762 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_761 : BitVec 32 := 1#32
  let v878 : BitVec 32 := Scalar.muli v13 c1_i32_761
  let v879 : BitVec 32 := Scalar.addi c0_i32_762 v878
  v879.toNat
def k0_dev30 (d0 : Dev nD) : Nat :=
  let c0_i32_765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_764 : BitVec 32 := 1#32
  let v880 : BitVec 32 := Scalar.muli v24 c1_i32_764
  let v881 : BitVec 32 := Scalar.addi c0_i32_765 v880
  v881.toNat
def k0_dev31 (d0 : Dev nD) : Nat :=
  let c0_i32_775 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_774 : BitVec 32 := 1#32
  let v882 : BitVec 32 := Scalar.muli v24 c1_i32_774
  let v883 : BitVec 32 := Scalar.addi c0_i32_775 v882
  v883.toNat
def k0_dev32 (d0 : Dev nD) : Nat :=
  let c0_i32_785 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_784 : BitVec 32 := 1#32
  let v892 : BitVec 32 := Scalar.muli v13 c1_i32_784
  let v893 : BitVec 32 := Scalar.addi c0_i32_785 v892
  v893.toNat
def k0_dev33 (d0 : Dev nD) : Nat :=
  let c0_i32_869 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_868 : BitVec 32 := 1#32
  let v998 : BitVec 32 := Scalar.muli v13 c1_i32_868
  let v999 : BitVec 32 := Scalar.addi c0_i32_869 v998
  v999.toNat
def k0_dev34 (d0 : Dev nD) : Nat :=
  let c0_i32_872 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_871 : BitVec 32 := 1#32
  let v1000 : BitVec 32 := Scalar.muli v24 c1_i32_871
  let v1001 : BitVec 32 := Scalar.addi c0_i32_872 v1000
  v1001.toNat
def k0_dev35 (d0 : Dev nD) : Nat :=
  let c0_i32_882 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_881 : BitVec 32 := 1#32
  let v1002 : BitVec 32 := Scalar.muli v24 c1_i32_881
  let v1003 : BitVec 32 := Scalar.addi c0_i32_882 v1002
  v1003.toNat
def k0_dev36 (d0 : Dev nD) : Nat :=
  let c0_i32_892 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_891 : BitVec 32 := 1#32
  let v1012 : BitVec 32 := Scalar.muli v13 c1_i32_891
  let v1013 : BitVec 32 := Scalar.addi c0_i32_892 v1012
  v1013.toNat
def k0_dev37 (d0 : Dev nD) : Nat :=
  let c0_i32_976 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_975 : BitVec 32 := 1#32
  let v1118 : BitVec 32 := Scalar.muli v13 c1_i32_975
  let v1119 : BitVec 32 := Scalar.addi c0_i32_976 v1118
  v1119.toNat
def k0_dev38 (d0 : Dev nD) : Nat :=
  let c0_i32_979 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_978 : BitVec 32 := 1#32
  let v1120 : BitVec 32 := Scalar.muli v24 c1_i32_978
  let v1121 : BitVec 32 := Scalar.addi c0_i32_979 v1120
  v1121.toNat
def k0_dev39 (d0 : Dev nD) : Nat :=
  let c0_i32_989 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_988 : BitVec 32 := 1#32
  let v1122 : BitVec 32 := Scalar.muli v24 c1_i32_988
  let v1123 : BitVec 32 := Scalar.addi c0_i32_989 v1122
  v1123.toNat
def k0_dev40 (d0 : Dev nD) : Nat :=
  let c0_i32_999 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_998 : BitVec 32 := 1#32
  let v1132 : BitVec 32 := Scalar.muli v13 c1_i32_998
  let v1133 : BitVec 32 := Scalar.addi c0_i32_999 v1132
  v1133.toNat
def k0_dev41 (d0 : Dev nD) : Nat :=
  let c0_i32_1083 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1082 : BitVec 32 := 1#32
  let v1238 : BitVec 32 := Scalar.muli v13 c1_i32_1082
  let v1239 : BitVec 32 := Scalar.addi c0_i32_1083 v1238
  v1239.toNat
def k0_dev42 (d0 : Dev nD) : Nat :=
  let c0_i32_1086 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1085 : BitVec 32 := 1#32
  let v1240 : BitVec 32 := Scalar.muli v24 c1_i32_1085
  let v1241 : BitVec 32 := Scalar.addi c0_i32_1086 v1240
  v1241.toNat
def k0_dev43 (d0 : Dev nD) : Nat :=
  let c0_i32_1096 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1095 : BitVec 32 := 1#32
  let v1242 : BitVec 32 := Scalar.muli v24 c1_i32_1095
  let v1243 : BitVec 32 := Scalar.addi c0_i32_1096 v1242
  v1243.toNat
def k0_dev44 (d0 : Dev nD) : Nat :=
  let c0_i32_1106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1105 : BitVec 32 := 1#32
  let v1252 : BitVec 32 := Scalar.muli v13 c1_i32_1105
  let v1253 : BitVec 32 := Scalar.addi c0_i32_1106 v1252
  v1253.toNat
def k0_dev45 (d0 : Dev nD) : Nat :=
  let c0_i32_1190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1189 : BitVec 32 := 1#32
  let v1358 : BitVec 32 := Scalar.muli v13 c1_i32_1189
  let v1359 : BitVec 32 := Scalar.addi c0_i32_1190 v1358
  v1359.toNat
def k0_dev46 (d0 : Dev nD) : Nat :=
  let c0_i32_1193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1192 : BitVec 32 := 1#32
  let v1360 : BitVec 32 := Scalar.muli v24 c1_i32_1192
  let v1361 : BitVec 32 := Scalar.addi c0_i32_1193 v1360
  v1361.toNat
def k0_dev47 (d0 : Dev nD) : Nat :=
  let c0_i32_1203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1202 : BitVec 32 := 1#32
  let v1362 : BitVec 32 := Scalar.muli v24 c1_i32_1202
  let v1363 : BitVec 32 := Scalar.addi c0_i32_1203 v1362
  v1363.toNat
def k0_dev48 (d0 : Dev nD) : Nat :=
  let c0_i32_1213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1212 : BitVec 32 := 1#32
  let v1372 : BitVec 32 := Scalar.muli v13 c1_i32_1212
  let v1373 : BitVec 32 := Scalar.addi c0_i32_1213 v1372
  v1373.toNat
def k0_dev49 (d0 : Dev nD) : Nat :=
  let c0_i32_1297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1296 : BitVec 32 := 1#32
  let v1478 : BitVec 32 := Scalar.muli v13 c1_i32_1296
  let v1479 : BitVec 32 := Scalar.addi c0_i32_1297 v1478
  v1479.toNat
def k0_dev50 (d0 : Dev nD) : Nat :=
  let c0_i32_1300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1299 : BitVec 32 := 1#32
  let v1480 : BitVec 32 := Scalar.muli v24 c1_i32_1299
  let v1481 : BitVec 32 := Scalar.addi c0_i32_1300 v1480
  v1481.toNat
def k0_dev51 (d0 : Dev nD) : Nat :=
  let c0_i32_1310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1309 : BitVec 32 := 1#32
  let v1482 : BitVec 32 := Scalar.muli v24 c1_i32_1309
  let v1483 : BitVec 32 := Scalar.addi c0_i32_1310 v1482
  v1483.toNat
def k0_dev52 (d0 : Dev nD) : Nat :=
  let c0_i32_1320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1319 : BitVec 32 := 1#32
  let v1492 : BitVec 32 := Scalar.muli v13 c1_i32_1319
  let v1493 : BitVec 32 := Scalar.addi c0_i32_1320 v1492
  v1493.toNat
def k0_dev53 (d0 : Dev nD) : Nat :=
  let c0_i32_1404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1403 : BitVec 32 := 1#32
  let v1598 : BitVec 32 := Scalar.muli v13 c1_i32_1403
  let v1599 : BitVec 32 := Scalar.addi c0_i32_1404 v1598
  v1599.toNat
def k0_dev54 (d0 : Dev nD) : Nat :=
  let c0_i32_1407 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1406 : BitVec 32 := 1#32
  let v1600 : BitVec 32 := Scalar.muli v24 c1_i32_1406
  let v1601 : BitVec 32 := Scalar.addi c0_i32_1407 v1600
  v1601.toNat
def k0_dev55 (d0 : Dev nD) : Nat :=
  let c0_i32_1417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1416 : BitVec 32 := 1#32
  let v1602 : BitVec 32 := Scalar.muli v24 c1_i32_1416
  let v1603 : BitVec 32 := Scalar.addi c0_i32_1417 v1602
  v1603.toNat
def k0_dev56 (d0 : Dev nD) : Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1426 : BitVec 32 := 1#32
  let v1612 : BitVec 32 := Scalar.muli v13 c1_i32_1426
  let v1613 : BitVec 32 := Scalar.addi c0_i32_1427 v1612
  v1613.toNat
def k0_dev57 (d0 : Dev nD) : Nat :=
  let c0_i32_1518 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1517 : BitVec 32 := 1#32
  let v1718 : BitVec 32 := Scalar.muli v24 c1_i32_1517
  let v1719 : BitVec 32 := Scalar.addi c0_i32_1518 v1718
  v1719.toNat
def k0_dev58 (d0 : Dev nD) : Nat :=
  let c0_i32_1528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1527 : BitVec 32 := 1#32
  let v1728 : BitVec 32 := Scalar.muli v13 c1_i32_1527
  let v1729 : BitVec 32 := Scalar.addi c0_i32_1528 v1728
  v1729.toNat
abbrev stage0_0 : Fin 1 → Memref sig .tc .vmem S512x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Prog.lean ====
/-
The kernel body as a chain of steps.

The printed body is sixty-three parts of straight-line text. Here it is written once more as one program: a start
(the two halves of the device's rows put into slot 0, the handshake on the barrier semaphore), fifteen steps around the
ring, and an end. A step takes its slots, its two neighbours and its two store offsets as parameters, so that what is
proved of one step is proved of all. `body_eq` says that the printed body is this program.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.RingGemm

open Cert.KernelIdeal Cert.KernelIdeal.Gen
open Idealize.ShloMosaic
open Idealize.ShloMosaic.TcCoe
open Idealize.SL Idealize.SL.Sem

variable {F : FTy → Type} [FloatOps F]

/-! ## The memrefs and semaphores -/

/-- The three slots of a comm buffer, by step: step `h` sends slot `h % 3` into slot `(h + 1) % 3`. -/
def sl (h : ℕ) : Fin 3 := ⟨h % 3, Nat.mod_lt _ (by decide)⟩

theorem inbS : ∀ (t : Fin 3) a, (![t.val, 0, 0] : Fin 3 → ℕ) a + S1x256x8192.size a ≤ S3x256x8192.size a := by decide
theorem inbD : ∀ (t : Fin 3) a, (![t.val] : Fin 1 → ℕ) a + S1.size a ≤ S3.size a := by decide
theorem wordsS : ∀ t : Fin 3, (Rect.unit (s := S3x256x8192) ![t.val, 0, 0] S1x256x8192.size (inbS t)).WholeWords (EltTy.packing .bf16) := by decide
theorem packedS : ∀ t : Fin 3, (Rect.unit (s := S3x256x8192) ![t.val, 0, 0] S1x256x8192.size (inbS t)).PackedRows (EltTy.packing .bf16) := by decide

/-- The rectangle of slot `t` in a comm buffer. -/
abbrev rS (t : Fin 3) : Rect S3x256x8192 := Rect.unit (s := S3x256x8192) ![t.val, 0, 0] S1x256x8192.size (inbS t)
/-- The whole weight buffer, the two halves of the device's rows, a block of the result. -/
abbrev rW : Rect S8192x256 := Rect.unit (s := S8192x256) ![0, 0] S8192x256.size inb_S8192x256_S8192x256_0_0
abbrev rX0 : Rect S512x8192 := Rect.unit (s := S512x8192) ![0, 0] S256x8192.size inb_S512x8192_S256x8192_0_0
abbrev rX1 : Rect S512x8192 := Rect.unit (s := S512x8192) ![256, 0] S256x8192.size inb_S512x8192_S256x8192_256_0
abbrev rO (o : Fin 2 → ℕ) (ho : ∀ a, o a + S256x256.size a ≤ S8192x256.size a) : Rect S8192x256 := Rect.unit (s := S8192x256) o S256x256.size ho

abbrev xM : Memref sig .tc .vmem S512x8192 .f32 := Memref.whole cc0_stg0_0
abbrev wM : Memref sig .tc .vmem S8192x256 .f32 := Memref.whole cc0_stg1_0
abbrev oM : Memref sig .tc .vmem S8192x256 .f32 := Memref.whole cc0_stg2_0

/-- The comm buffer of the stream going right (`true`) and of the one going left. -/
def commM : Bool → Memref sig .tc .vmem S3x256x8192 .bf16
  | true => Memref.whole cc0_scratch0
  | false => Memref.whole cc0_scratch1
theorem commW : ∀ δ, (commM δ).IsWhole
  | true => Memref.isWhole_whole _
  | false => Memref.isWhole_whole _
def sendA : Bool → DmaSems sig S3
  | true => cc0_scratch2
  | false => cc0_scratch4
def recvA : Bool → DmaSems sig S3
  | true => cc0_scratch3
  | false => cc0_scratch5
def credA : Bool → Sems sig S_
  | true => cc0_scratch6
  | false => cc0_scratch7

/-- Slot `t` of a stream's comm buffer. -/
def slotM (δ : Bool) (t : Fin 3) : Memref sig .tc .vmem S256x8192 .bf16 :=
  ((commM δ).slice (rS t) (fun _ => rfl)).squeeze S256x8192 squeezes_S1x256x8192_S256x8192
theorem slotW (δ : Bool) (t : Fin 3) : (slotM δ t).view.WordExact := ((commW δ).wordExact_slice rfl _ (wordsS t)).reshape _ _

def sendS (δ : Bool) (t : Fin 3) : DmaSem sig := (((sendA δ).slice (Rect.unit (s := S3) ![t.val] S1.size (inbD t))).squeeze S_ squeezes_S1_S_).sem
def recvS (δ : Bool) (t : Fin 3) : DmaSem sig := (((recvA δ).slice (Rect.unit (s := S3) ![t.val] S1.size (inbD t))).squeeze S_ squeezes_S1_S_).sem
def credS (δ : Bool) : Sem sig := (credA δ).sem
def barS : Sem sig := (SemArray.scalar (sig.barrier 0 rfl) : Sems sig S_).sem

/-! ## The pieces -/

abbrev PP (F : FTy → Type) [FloatOps F] : Type 1 := Prog (TpuEff nD τ sig (Elt F) Λ₀ .tc) PUnit

/-- The block of the result from a slot's rows and the device's weight columns: `gelu (rows · w)`. -/
def gemm (v : Vec F S1x256x8192 .bf16) (w : Vec F S8192x256 .f32) : FVec F S256x256 .f32 := k0_pay1 v w

/-- Slot `t`'s block of the result computed and stored at offset `o`. -/
def storeP (δ : Bool) (t : Fin 3) (o : Fin 2 → ℕ) (ho : ∀ a, o a + S256x256.size a ≤ S8192x256.size a) (k : PP F) : PP F :=
  .op (.load (commM δ) (rS t).toLoadRect (View.loadsAt_vmem h_S1x256x8192)) fun v =>
  .op (.load wM rW.toLoadRect (View.loadsAt_vmem h_S8192x256)) fun w =>
  .op (.load oM (rO o ho).toLoadRect (View.loadsAt_vmem h_S256x256)) fun _ =>
  .op (.store oM (rO o ho) (gemm v w) Finset.univ (View.stores_vmem_bits_univ h_S256x256 rfl) (.inl rfl)) fun _ => k

/-- Slot `s` sent into slot `r` of device `n`. -/
def sendP (δ : Bool) (s r : Fin 3) (n : Dev nD) (k : PP F) : PP F :=
  .op (.enqueueDma (slotM δ s) (.remote (Dev.tc n) (slotM δ r) (.dma (sendS δ s))) (.dma (recvS δ r)) (slotW δ s) (slotW δ r)
    ⟨⟨rfl, Or.inl rfl⟩, trivial⟩) fun _ => k

/-- The two waits of a transfer: the sender's, then the receiver's. -/
def waitP (δ : Bool) (s r : Fin 3) (k : PP F) : PP F :=
  .op (.waitDma2 (sendS δ s) (slotM δ r) (slotM δ s) (slotW δ r) (slotW δ s)) fun _ =>
  .op (.waitDma2 (recvS δ r) (slotM δ s) (slotM δ r) (slotW δ s) (slotW δ r)) fun _ => k

/-- A step around the ring: both transfers started, both blocks computed, both transfers waited for. -/
def mainP (s r : Fin 3) (n₁ n₂ : Dev nD) (o₁ : Fin 2 → ℕ) (h₁ : ∀ a, o₁ a + S256x256.size a ≤ S8192x256.size a)
    (o₂ : Fin 2 → ℕ) (h₂ : ∀ a, o₂ a + S256x256.size a ≤ S8192x256.size a) (k : PP F) : PP F :=
  sendP true s r n₁ <| sendP false s r n₂ <| storeP true s o₁ h₁ <| storeP false s o₂ h₂ <| waitP true s r <| waitP false s r k

/-- The two credits given back at a step's end, and the two waited for at a later step's start. -/
def sigP (n₁ n₂ : Dev nD) (k : PP F) : PP F :=
  .op (.semSignal (Dev.tc n₁ : Thread nD τ) (credS true) (1#32).toInt) fun _ =>
  .op (.semSignal (Dev.tc n₂ : Thread nD τ) (credS false) (1#32).toInt) fun _ => k
def credP (k : PP F) : PP F :=
  .op (.semWait (credS true) (1#32).toInt) fun _ => .op (.semWait (credS false) (1#32).toInt) fun _ => k

/-- The start: the device's halves into slot 0, the handshake. -/
def startP (n₁ n₂ : Dev nD) (k : PP F) : PP F :=
  .op (.load xM rX0.toLoadRect (View.loadsAt_vmem h_S256x8192)) fun v =>
  .op (.load (commM true) (rS 0).toLoadRect (View.loadsAt_vmem h_S1x256x8192)) fun _ =>
  .op (.store (commM true) (rS 0) (k0_pay2 v) Finset.univ
    (View.stores_vmem h_S1x256x8192 ((commW true).storeExact_slice rfl _ (packedS 0)) (fun _ => rfl)) (.inl rfl)) fun _ =>
  .op (.load xM rX1.toLoadRect (View.loadsAt_vmem h_S256x8192)) fun v' =>
  .op (.load (commM false) (rS 0).toLoadRect (View.loadsAt_vmem h_S1x256x8192)) fun _ =>
  .op (.store (commM false) (rS 0) (k0_pay2 v') Finset.univ
    (View.stores_vmem h_S1x256x8192 ((commW false).storeExact_slice rfl _ (packedS 0)) (fun _ => rfl)) (.inl rfl)) fun _ =>
  .op (.semSignal (Dev.tc n₁ : Thread nD τ) barS (1#32).toInt) fun _ =>
  .op (.semSignal (Dev.tc n₂ : Thread nD τ) barS (1#32).toInt) fun _ =>
  .op (.semWait barS (2#32).toInt) fun _ => k

/-- The body after the device has read its number `d`. -/
def bodyP (d : Dev nD) : PP F :=
  startP ⟨k0_dev1 d, k0_dev1_lt d⟩ ⟨k0_dev2 d, k0_dev2_lt d⟩ <|
  mainP (sl 0) (sl 1) ⟨k0_dev3 d, k0_dev3_lt d⟩ ⟨k0_dev4 d, k0_dev4_lt d⟩ _ (k0_off1_inb d 0) _ (k0_off2_inb d 0) <|
  sigP ⟨k0_dev5 d, k0_dev5_lt d⟩ ⟨k0_dev6 d, k0_dev6_lt d⟩ <|
  mainP (sl 1) (sl 2) ⟨k0_dev7 d, k0_dev7_lt d⟩ ⟨k0_dev8 d, k0_dev8_lt d⟩ _ (k0_off1_inb d 1) _ (k0_off2_inb d 1) <|
  sigP ⟨k0_dev9 d, k0_dev9_lt d⟩ ⟨k0_dev10 d, k0_dev10_lt d⟩ <|
  credP <| mainP (sl 2) (sl 3) ⟨k0_dev11 d, k0_dev11_lt d⟩ ⟨k0_dev12 d, k0_dev12_lt d⟩ _ (k0_off1_inb d 2) _ (k0_off2_inb d 2) <|
  sigP ⟨k0_dev13 d, k0_dev13_lt d⟩ ⟨k0_dev14 d, k0_dev14_lt d⟩ <|
  credP <| mainP (sl 3) (sl 4) ⟨k0_dev15 d, k0_dev15_lt d⟩ ⟨k0_dev16 d, k0_dev16_lt d⟩ _ (k0_off1_inb d 3) _ (k0_off2_inb d 3) <|
  sigP ⟨k0_dev17 d, k0_dev17_lt d⟩ ⟨k0_dev18 d, k0_dev18_lt d⟩ <|
  credP <| mainP (sl 4) (sl 5) ⟨k0_dev19 d, k0_dev19_lt d⟩ ⟨k0_dev20 d, k0_dev20_lt d⟩ _ (k0_off1_inb d 4) _ (k0_off2_inb d 4) <|
  sigP ⟨k0_dev21 d, k0_dev21_lt d⟩ ⟨k0_dev22 d, k0_dev22_lt d⟩ <|
  credP <| mainP (sl 5) (sl 6) ⟨k0_dev23 d, k0_dev23_lt d⟩ ⟨k0_dev24 d, k0_dev24_lt d⟩ _ (k0_off1_inb d 5) _ (k0_off2_inb d 5) <|
  sigP ⟨k0_dev25 d, k0_dev25_lt d⟩ ⟨k0_dev26 d, k0_dev26_lt d⟩ <|
  credP <| mainP (sl 6) (sl 7) ⟨k0_dev27 d, k0_dev27_lt d⟩ ⟨k0_dev28 d, k0_dev28_lt d⟩ _ (k0_off1_inb d 6) _ (k0_off2_inb d 6) <|
  sigP ⟨k0_dev29 d, k0_dev29_lt d⟩ ⟨k0_dev30 d, k0_dev30_lt d⟩ <|
  credP <| mainP (sl 7) (sl 8) ⟨k0_dev31 d, k0_dev31_lt d⟩ ⟨k0_dev32 d, k0_dev32_lt d⟩ _ (k0_off1_inb d 7) _ (k0_off2_inb d 7) <|
  sigP ⟨k0_dev33 d, k0_dev33_lt d⟩ ⟨k0_dev34 d, k0_dev34_lt d⟩ <|
  credP <| mainP (sl 8) (sl 9) ⟨k0_dev35 d, k0_dev35_lt d⟩ ⟨k0_dev36 d, k0_dev36_lt d⟩ _ (k0_off1_inb d 8) _ (k0_off2_inb d 8) <|
  sigP ⟨k0_dev37 d, k0_dev37_lt d⟩ ⟨k0_dev38 d, k0_dev38_lt d⟩ <|
  credP <| mainP (sl 9) (sl 10) ⟨k0_dev39 d, k0_dev39_lt d⟩ ⟨k0_dev40 d, k0_dev40_lt d⟩ _ (k0_off1_inb d 9) _ (k0_off2_inb d 9) <|
  sigP ⟨k0_dev41 d, k0_dev41_lt d⟩ ⟨k0_dev42 d, k0_dev42_lt d⟩ <|
  credP <| mainP (sl 10) (sl 11) ⟨k0_dev43 d, k0_dev43_lt d⟩ ⟨k0_dev44 d, k0_dev44_lt d⟩ _ (k0_off1_inb d 10) _ (k0_off2_inb d 10) <|
  sigP ⟨k0_dev45 d, k0_dev45_lt d⟩ ⟨k0_dev46 d, k0_dev46_lt d⟩ <|
  credP <| mainP (sl 11) (sl 12) ⟨k0_dev47 d, k0_dev47_lt d⟩ ⟨k0_dev48 d, k0_dev48_lt d⟩ _ (k0_off1_inb d 11) _ (k0_off2_inb d 11) <|
  sigP ⟨k0_dev49 d, k0_dev49_lt d⟩ ⟨k0_dev50 d, k0_dev50_lt d⟩ <|
  credP <| mainP (sl 12) (sl 13) ⟨k0_dev51 d, k0_dev51_lt d⟩ ⟨k0_dev52 d, k0_dev52_lt d⟩ _ (k0_off1_inb d 12) _ (k0_off2_inb d 12) <|
  sigP ⟨k0_dev53 d, k0_dev53_lt d⟩ ⟨k0_dev54 d, k0_dev54_lt d⟩ <|
  credP <| mainP (sl 13) (sl 14) ⟨k0_dev55 d, k0_dev55_lt d⟩ ⟨k0_dev56 d, k0_dev56_lt d⟩ _ (k0_off1_inb d 13) _ (k0_off2_inb d 13) <|
  credP <| mainP (sl 14) (sl 15) ⟨k0_dev57 d, k0_dev57_lt d⟩ ⟨k0_dev58 d, k0_dev58_lt d⟩ _ (k0_off1_inb d 14) _ (k0_off2_inb d 14) <|
  storeP true (sl 15) _ (k0_off2_inb d 15) <| storeP false (sl 15) _ (k0_off1_inb d 15) <| .ret ⟨⟩

set_option maxRecDepth 65536 in
set_option maxHeartbeats 4000000 in
/-- The printed body is the chain of steps. -/
theorem body_eq : cc0_body (F := F) xM (Memref.isWhole_whole _) wM (Memref.isWhole_whole _) oM (Memref.isWhole_whole _)
    (Memref.whole cc0_scratch0) (Memref.isWhole_whole _) (Memref.whole cc0_scratch1) (Memref.isWhole_whole _)
    cc0_scratch2 cc0_scratch3 cc0_scratch4 cc0_scratch5 cc0_scratch6 cc0_scratch7 = .op .deviceId fun d => bodyP d := rfl

attribute [irreducible] sl

end Cert.RingGemm

end
-- ==== Proof.Common.lean ====
/-
The ring's protocol, as cells with a schedule of rounds.

Every device sends two streams round the ring, one to the right (`true`) and one to the left (`false`); stream `δ` leaves
device `c` for `nx δ c` and arrives from `pv δ c`. Per stream a device has three slots. Step `h` sends slot `h % 3` into
slot `(h + 1) % 3` of the next device.

The cells of a device are its barrier, per stream a credit cell, and per stream and slot a send and a receive cell.
* Barrier: one round with two duties, one per stream `δ`, paid by `nx δ c` with its slots 1 and 2 of that stream.
* Send and receive: five rounds, one duty each; step `h` is round `h / 3`.
* Credit: one round with thirteen duties. A device returns credits ahead of what it can know of its neighbour's waits, so
  the credits of a stream are not told apart by rounds. Duty `i` carries what is known once step `i` is over: that the
  slots of all steps up to `i` have been released, and that their receive cells have reached the round of the next write.
  The slots themselves lie in the release library's invariants, from which the writer takes them.
-/
module

public import proofs.«01_k».proof.Proof.Prog
public import Idealize.ShloMosaic.Lib.Pipeline.Launch
public import Idealize.ShloMosaic.Lib.Pipeline.Kit
public import Idealize.ShloMosaic.Lib.Release
public import Idealize.ShloMosaic.Lib.Tactic

@[expose] public section

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

/-! ## The ring -/

def right (c : Dev nD) : Dev nD := ⟨(c.val + 1) % 16, Nat.mod_lt _ (by decide)⟩
def left (c : Dev nD) : Dev nD := ⟨(c.val + 15) % 16, Nat.mod_lt _ (by decide)⟩
/-- Where stream `δ` goes from `c`, and whence it comes. -/
def nx : Bool → Dev nD → Dev nD
  | true => right
  | false => left
def pv : Bool → Dev nD → Dev nD
  | true => left
  | false => right

theorem nx_pv : ∀ δ c, nx δ (pv δ c) = c := by decide
theorem pv_nx : ∀ δ c, pv δ (nx δ c) = c := by decide
def ring (δ : Bool) : Dev nD ≃ Dev nD := ⟨nx δ, pv δ, pv_nx δ, nx_pv δ⟩

/-- The device whose rows stream `δ` brings to `c` by step `h`. -/
def org (δ : Bool) (h : ℕ) (c : Dev nD) : Dev nD := (pv δ)^[h] c
theorem org_succ (δ : Bool) (h : ℕ) (c : Dev nD) : org δ (h + 1) c = org δ h (pv δ c) := rfl

/-! ## The resource algebra -/

abbrev Key : Type := Dev nD × Bool × Fin 3
abbrev UB : Type := URounds (GSem nD τ sig) ℕ
abbrev UK : Type := USlots Key
abbrev UU : Type := UR sig nD τ × (UB × UK)

local notation "𝕄" => MT nD τ sig ℕ (Elt F) ℕ UU ℕ

abbrev EP : Emb (UR sig nD τ) (MT nD τ sig ℕ (Elt F) ℕ UU ℕ) := embL
abbrev EX : Emb (UB × UK) (MT nD τ sig ℕ (Elt F) ℕ UU ℕ) := embR
abbrev ER : Emb UB (MT nD τ sig ℕ (Elt F) ℕ UU ℕ) := (Emb.inl : Emb UB (UB × UK)).trans EX
abbrev ES : Emb UK (MT nD τ sig ℕ (Elt F) ℕ UU ℕ) := (Emb.inr : Emb UK (UB × UK)).trans EX

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells -/

inductive Kind where
  | bar
  | cred (δ : Bool)
  | send (δ : Bool) (t : Fin 3)
  | recv (δ : Bool) (t : Fin 3)
deriving DecidableEq

instance : Fintype Kind where
  elems := insert .bar (Finset.univ.image Kind.cred ∪ (Finset.univ : Finset (Bool × Fin 3)).image (fun p => .send p.1 p.2)
    ∪ (Finset.univ : Finset (Bool × Fin 3)).image (fun p => .recv p.1 p.2))
  complete := by rintro (_ | _ | _ | _) <;> simp

/-- A device's semaphores by kind. -/
def csem : Kind → SemLoc sig
  | .bar => .reg barS
  | .cred δ => .reg (credS δ)
  | .send δ t => .dma (sendS δ t)
  | .recv δ t => .dma (recvS δ t)

theorem csem_inj : Function.Injective csem := by decide

abbrev cell (c : Dev nD) (k : Kind) : GSem nD τ sig := ((c : Thread nD τ), csem k)

/-- The kind of a cell, if it is one of the protocol's. -/
def kof (g : GSem nD τ sig) : Option Kind := if g.1.2 = .tc then Function.partialInv csem g.2 else none
theorem kof_cell (c : Dev nD) (k : Kind) : kof (cell c k) = some k :=
  (if_pos rfl).trans (Function.partialInv_left csem_inj k)
theorem cell_inj : Function.Injective (fun ck : Dev nD × Kind => cell ck.1 ck.2) := by
  rintro ⟨c, k⟩ ⟨c', k'⟩ h
  have h1 : c = c' := congrArg (fun g : GSem nD τ sig => g.1.1) h
  have h2 : k = k' := csem_inj (congrArg Prod.snd h)
  rw [h1, h2]

/-- What one transfer of a slot credits. -/
def N : ℕ := (slotM true 0).view.dmaCredit
theorem N_pos : 0 < N := View.dmaCredit_pos _ (by decide)
theorem credit_eq : ∀ (δ : Bool) (t : Fin 3), (slotM δ t).view.dmaCredit = N
  | true, _ => rfl
  | false, _ => rfl
attribute [irreducible] N

/-! ## Contents -/

/-- Device `c`'s rows and weight columns as staged. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- What stream `δ` carries of device `o`: the upper half of its rows to the right, the lower half to the left. -/
def chunk : Bool → Dev nD → Vec F S1x256x8192 .bf16
  | true, o => k0_pay2 (xM.view.readAt (Elt F) rX0.toLoadRect (xstg m ρ o))
  | false, o => k0_pay2 (xM.view.readAt (Elt F) rX1.toLoadRect (xstg m ρ o))

/-- Slot `t` as a view of its comm buffer, its elements, what it reads. -/
abbrev slotV (δ : Bool) (t : Fin 3) : View sig .tc .vmem (rS t).shape .bf16 := (commM δ).view.slice (rS t)
abbrev cloc (δ : Bool) (c : Dev nD) : Loc nD τ sig := (commM δ).view.loc (c : Thread nD τ)

/-- Slot `t` of stream `δ` on `c`, share `q`, reading `ch`; the slot at whatever contents. -/
def has (δ : Bool) (t : Fin 3) (c : Dev nD) (q : PosShare TreeShare) (ch : Vec F S1x256x8192 .bf16) : sProp 𝕄 :=
  iprop(∃ f : Buf (Elt F) (cloc δ c), ⌜(slotV δ t).read (Elt F) f = ch⌝ ∗ (cloc δ c ↦[(slotV δ t).set]{q} f))
def slotE (δ : Bool) (t : Fin 3) (c : Dev nD) : sProp 𝕄 := slot (cloc δ c) (slotV δ t).set

instance has_storable (δ : Bool) (t : Fin 3) (c : Dev nD) (q : PosShare TreeShare) (ch : Vec F S1x256x8192 .bf16) :
    BI.Storable (upEmb : UEmb _ 𝕄) (has (F := F) δ t c q ch) := by unfold has; infer_instance
instance slotE_storable (δ : Bool) (t : Fin 3) (c : Dev nD) :
    BI.Storable (upEmb : UEmb _ 𝕄) (slotE (F := F) δ t c) := by unfold slotE; infer_instance

theorem has_slotE (δ : Bool) (t : Fin 3) (c : Dev nD) (ch : Vec F S1x256x8192 .bf16) : has δ t c fullShare ch ⊢ slotE δ t c := by
  unfold has slotE slot
  iintro ⟨%f, -, H⟩; iexists f; iexact H

theorem slotE_excl (δ : Bool) (t : Fin 3) (c : Dev nD) : iprop(slotE δ t c ∗ slotE δ t c) ⊢ (False : sProp 𝕄) :=
  slot_slot_false (by
    rw [← Finset.card_pos, View.card_set]; exact h_S1x256x8192)

/-- The whole slot is its two half shares. -/
theorem has_split (δ : Bool) (t : Fin 3) (c : Dev nD) (ch : Vec F S1x256x8192 .bf16) :
    has δ t c fullShare ch ⊢ iprop(has δ t c fullShare.left ch ∗ has δ t c fullShare.right ch) := by
  unfold has
  iintro ⟨%f, %hf, H⟩
  ihave H' := (pointsTo_share (PosShare.mem_left_op_right fullShare)).1 $$ H
  icases H' with ⟨Hl, Hr⟩
  isplitl [Hl]
  · iexists f; isplitr; · (ipureintro; exact hf)
    iexact Hl
  · iexists f; isplitr; · (ipureintro; exact hf)
    iexact Hr
theorem has_join (δ : Bool) (t : Fin 3) (c : Dev nD) (ch : Vec F S1x256x8192 .bf16) :
    iprop(has δ t c fullShare.left ch ∗ has δ t c fullShare.right ch) ⊢ has δ t c fullShare ch := by
  unfold has
  iintro ⟨⟨%f, %hf, Hl⟩, ⟨%g, %hg, Hr⟩⟩
  have key : iprop((cloc δ c ↦[(slotV δ t).set]{fullShare.left} f) ∗ (cloc δ c ↦[(slotV δ t).set]{fullShare.right} g))
      ⊢ (cloc δ c ↦[(slotV δ t).set]{fullShare} g : sProp 𝕄) := by
    have e : ∀ i ∈ (slotV δ t).set, f i = g i := by
      intro i hi
      obtain ⟨x, -, rfl⟩ := Finset.mem_map.mp hi
      have h := congrFun (hf.trans hg.symm) x
      rw [View.read_apply, View.read_apply] at h
      exact (cast_inj _).mp h
    rw [pointsTo_congr e]
    exact (pointsTo_share (PosShare.mem_left_op_right fullShare)).2
  iexists g
  isplitr; · (ipureintro; exact hg)
  iapply key
  isplitl [Hl] <;> iassumption

/-! ## The schedule -/

/-- What is known of stream `δ` on `c` once step `i` is over: its slot released, that slot's receive cell ready. -/
def fact (δ : Bool) (c : Dev nD) (i : ℕ) : sProp 𝕄 :=
  iprop(released ES (c, δ, sl i) (i / 3 + 1) ∗ reached ER (cell c (.recv δ (sl i))) ((i + 2) / 3))
def facts (δ : Bool) (c : Dev nD) (n : ℕ) : sProp 𝕄 := bigSep (Finset.range n) (fact δ c)

instance fact_persistent (δ : Bool) (c : Dev nD) (i : ℕ) : BI.Persistent (fact (F := F) δ c i) := by unfold fact; infer_instance
instance facts_persistent (δ : Bool) (c : Dev nD) (n : ℕ) : BI.Persistent (facts (F := F) δ c n) := by unfold facts; infer_instance
instance fact_storable (δ : Bool) (c : Dev nD) (i : ℕ) : BI.Storable (upEmb : UEmb _ 𝕄) (fact (F := F) δ c i) := by
  unfold fact; infer_instance
instance facts_storable (δ : Bool) (c : Dev nD) (n : ℕ) : BI.Storable (upEmb : UEmb _ 𝕄) (facts (F := F) δ c n) := by
  unfold facts; infer_instance

def barPay (δ : Bool) (c : Dev nD) : sProp 𝕄 := iprop(slotE δ 1 (nx δ c) ∗ slotE δ 2 (nx δ c))
def credPay (δ : Bool) (c : Dev nD) (i : ℕ) : sProp 𝕄 := facts δ (nx δ c) (i + 1)
def sendPay (δ : Bool) (t : Fin 3) (c : Dev nD) (r : ℕ) : sProp 𝕄 := has δ t c fullShare.left (chunk m ρ δ (org δ (3 * r + t.val) c))
def recvPay (δ : Bool) (t : Fin 3) (c : Dev nD) (r : ℕ) : sProp 𝕄 :=
  has δ t c fullShare (chunk m ρ δ (org δ (3 * r + (t.val + 2) % 3 + 1) c))

/-- The number of stream `δ`'s barrier duty. -/
def bd : Bool → ℕ
  | true => 1
  | false => 0

def kDuties : Option Kind → ℕ → Finset ℕ
  | some .bar, r => if r = 0 then {0, 1} else ∅
  | some (.cred _), r => if r = 0 then Finset.range 13 else ∅
  | some (.send _ _), r => if r < 5 then {0} else ∅
  | some (.recv _ _), r => if r < 5 then {0} else ∅
  | none, _ => ∅
def kAmount : Option Kind → ℕ
  | some (.send _ _) => N
  | some (.recv _ _) => N
  | _ => 1
def kPay (c : Dev nD) : Option Kind → ℕ → ℕ → sProp 𝕄
  | some .bar, _, d => barPay (d == 1) c
  | some (.cred δ), _, d => credPay δ c d
  | some (.send δ t), r, _ => sendPay m ρ δ t c r
  | some (.recv δ t), r, _ => recvPay m ρ δ t c r
  | none, _, _ => iprop(emp)

def rd : Rounds.Schedule (GSem nD τ sig) ℕ 𝕄 where
  duties g r := kDuties (kof g) r
  unitless _ := False
  amount g _ _ := kAmount (kof g)
  payload g r d := kPay m ρ g.1.1 (kof g) r d
  amount_pos g _ _ _ := by
    rcases kof g with _ | (_ | _ | _ | _)
    exacts [Nat.one_pos, Nat.one_pos, Nat.one_pos, N_pos, N_pos]

instance rd_storable (g : GSem nD τ sig) (r : ℕ) (d : ℕ) : BI.Storable (upEmb : UEmb _ 𝕄) ((rd (F := F) m ρ).payload g r d) := by
  show BI.Storable upEmb (kPay m ρ g.1.1 (kof g) r d)
  rcases kof g with _ | (_ | _ | _ | _)
  · show BI.Storable upEmb iprop(emp); infer_instance
  · show BI.Storable upEmb (barPay _ _); unfold barPay; infer_instance
  · show BI.Storable upEmb (credPay _ _ _); unfold credPay; infer_instance
  · show BI.Storable upEmb (sendPay m ρ _ _ _ _); unfold sendPay; infer_instance
  · show BI.Storable upEmb (recvPay m ρ _ _ _ _); unfold recvPay; infer_instance

section Sched
variable (c : Dev nD) (δ : Bool) (t : Fin 3)

theorem duties_cell (k : Kind) (r : ℕ) : (rd (F := F) m ρ).duties (cell c k) r = kDuties (some k) r := by
  show kDuties (kof (cell c k)) r = _; rw [kof_cell]
theorem amount_cell (k : Kind) (r d : ℕ) : (rd (F := F) m ρ).amount (cell c k) r d = kAmount (some k) := by
  show kAmount (kof (cell c k)) = _; rw [kof_cell]
theorem payload_cell (k : Kind) (r d : ℕ) : (rd (F := F) m ρ).payload (cell c k) r d = kPay m ρ c (some k) r d := by
  show kPay m ρ c (kof (cell c k)) r d = _; rw [kof_cell]
theorem expect_cell (k : Kind) (r : ℕ) : (rd (F := F) m ρ).expect (cell c k) r = (kDuties (some k) r).card * kAmount (some k) := by
  unfold Schedule.expect Schedule.amountOf
  rw [duties_cell, Finset.sum_congr rfl fun d _ => amount_cell m ρ c k r d, Finset.sum_const, smul_eq_mul]

/-- After its last round a cell has no duty. -/
def lastR : Kind → ℕ
  | .bar => 1
  | .cred _ => 1
  | _ => 5
theorem duties_later (k : Kind) : ∀ r, lastR k ≤ r → (rd (F := F) m ρ).duties (cell c k) r = ∅ := by
  intro r hr
  rw [duties_cell]
  rcases k with _ | _ | _ | _
  · exact if_neg (by have : 1 ≤ r := hr; omega)
  · exact if_neg (by have : 1 ≤ r := hr; omega)
  · exact if_neg (by have : 5 ≤ r := hr; omega)
  · exact if_neg (by have : 5 ≤ r := hr; omega)

end Sched

/-! ## Levels -/

def kLv : Option Kind → ℕ → ℕ
  | some .bar, _ => 1
  | some (.cred _), i => 2 * i + 3
  | some (.recv _ _), i => 2 * i + 2
  | _, _ => 0
def lv (g : GSem nD τ sig) (i : ℕ) : ℕ := kLv (kof g) i
def L (g : GSem nD τ sig) : Finset ℕ := if g.1.2 = .tc then Finset.range 16 else ∅

theorem L_of_ne (g : GSem nD τ sig) (h : g.1.2 ≠ .tc) : L g = ∅ := if_neg h
theorem L_tc (c : Dev nD) (sm : SemLoc sig) : L ((c : Thread nD τ), sm) = Finset.range 16 := if_pos rfl
theorem lv_cell (c : Dev nD) (k : Kind) (i : ℕ) : lv (cell c k) i = kLv (some k) i := by unfold lv; rw [kof_cell]

/-- Everything that `O` owes lies above level `n`. -/
def Above (n : ℕ) (O : CellTallies nD τ sig ℕ) : Prop := ∀ g u, 0 < O g u → u ∈ L g ∧ n < lv g u

theorem above_zero (n : ℕ) : Above n 0 := fun g u h => absurd h (Nat.lt_irrefl 0)
theorem above_add {n : ℕ} {O O' : CellTallies nD τ sig ℕ} (h : Above n O) (h' : Above n O') : Above n (O + O') := by
  intro g u hg
  rw [Pi.add_apply, Finsupp.add_apply] at hg
  rcases Nat.eq_zero_or_pos (O g u) with h0 | h0
  · exact h' g u (by omega)
  · exact h g u h0
theorem above_sum {n : ℕ} (s : Finset ℕ) (f : ℕ → CellTallies nD τ sig ℕ) (h : ∀ i ∈ s, Above n (f i)) : Above n (∑ i ∈ s, f i) := by
  induction s using Finset.induction_on with
  | empty => rw [Finset.sum_empty]; exact above_zero n
  | insert a s ha ih =>
    rw [Finset.sum_insert ha]
    exact above_add (h a (Finset.mem_insert_self _ _)) (ih fun i hi => h i (Finset.mem_insert_of_mem hi))
theorem above_tally {n : ℕ} (c : Dev nD) (k : Kind) (i a : ℕ) (hi : i < 16) (h : n < kLv (some k) i) : Above n (tallyAt (cell c k) i a) := by
  intro g u hg
  rw [tallyAt_apply] at hg
  by_cases e : g = cell c k ∧ u = i
  · rw [e.1, e.2, L_tc, lv_cell]; exact ⟨Finset.mem_range.mpr hi, h⟩
  · rw [if_neg e] at hg; exact absurd hg (Nat.lt_irrefl 0)
theorem Above.mono {n n' : ℕ} {O : CellTallies nD τ sig ℕ} (h : Above n O) (hn : n' ≤ n) : Above n' O :=
  fun g u hg => ⟨(h g u hg).1, lt_of_le_of_lt hn (h g u hg).2⟩

/-- The level facts. -/
def levs : sProp 𝕄 := levAts L lv
instance levs_persistent : BI.Persistent (levs (F := F)) := by unfold levs; infer_instance

theorem mayWait (c : Dev nD) (sm : SemLoc sig) (i : ℕ) (hi : i < 16) (O : CellTallies nD τ sig ℕ)
    (h : Above (lv ((c : Thread nD τ), sm) i) O) : levs (F := F) ⊢ MayWait (c : Thread nD τ) sm i O :=
  MayOwe.of_cut (L := L) (lev := lv) (lv ((c : Thread nD τ), sm) i)
    (fun p hp => by rw [Finset.mem_singleton.mp hp, L_tc]; exact Finset.mem_range.mpr hi)
    (fun g u hg => (h g u hg).1)
    (fun p hp => by rw [Finset.mem_singleton.mp hp])
    (fun g u hg => (h g u hg).2)

end Cert.RingGemm

end
-- ==== Proof.Ops.lean ====
/-
One device's operations as rules over the ring's schedule: a transfer, its two waits, the credit given back and the
credit waited for, a block of the result stored. Each is stated for a stream `δ` and a step `h`.
-/
module

public import proofs.«01_k».proof.Proof.Common

@[expose] public section

set_option maxRecDepth 20000

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

abbrev 𝒱₀ : Variants := Variants.none

/-- The program `p` run on device `c`. -/
abbrev wpc (c : Dev nD) (p : PP F) (Q : PUnit → sProp 𝕄) : sProp 𝕄 :=
  wp frame (wpE (defs₀ (F := F)) 𝒱₀ (c : Thread nD τ) none) Set.univ p Q

/-! ## What every device knows -/

section Recs
variable (κ : Dev nD × Kind → ℕ) (ν : Key → ℕ)

/-- The invariants of all cells and of all slots, that every cell is at its first round, and the levels. -/
def recs : sProp 𝕄 :=
  iprop((bigSep Finset.univ fun ck : Dev nD × Kind => cellInv ER (rd m ρ) (κ ck) (cell ck.1 ck.2))
    ∗ (bigSep Finset.univ fun k : Key => slotInv ES (ν k) k (slotE k.2.1 k.2.2 k.1))
    ∗ (bigSep Finset.univ fun ck : Dev nD × Kind => reached ER (cell ck.1 ck.2) 0)
    ∗ levs (F := F))

instance recs_persistent : BI.Persistent (recs m ρ κ ν) := by unfold recs; infer_instance

theorem recs_cell (c : Dev nD) (k : Kind) : recs m ρ κ ν ⊢ cellInv ER (rd m ρ) (κ (c, k)) (cell c k) :=
  sep_elim_left.trans (bigSep_elim (Φ := fun ck : Dev nD × Kind => (cellInv ER (rd m ρ) (κ ck) (cell ck.1 ck.2) : sProp 𝕄)) (Finset.mem_univ (c, k)))
theorem recs_slot (k : Key) : recs m ρ κ ν ⊢ slotInv ES (ν k) k (slotE k.2.1 k.2.2 k.1) :=
  sep_elim_right.trans <| sep_elim_left.trans
    (bigSep_elim (Φ := fun k : Key => (slotInv ES (ν k) k (slotE k.2.1 k.2.2 k.1) : sProp 𝕄)) (Finset.mem_univ k))
theorem recs_reached (c : Dev nD) (k : Kind) : recs m ρ κ ν ⊢ reached ER (cell c k) 0 :=
  sep_elim_right.trans <| sep_elim_right.trans <| sep_elim_left.trans
    (bigSep_elim (Φ := fun ck : Dev nD × Kind => (reached ER (cell ck.1 ck.2) 0 : sProp 𝕄)) (Finset.mem_univ (c, k)))
theorem recs_lev : recs m ρ κ ν ⊢ levs (F := F) := by
  unfold recs
  iintro ⟨-, -, -, H⟩
  iexact H
end Recs

/-- What the device owes, whatever it has waited for. -/
def owing (c : Dev nD) (O : CellTallies nD τ sig ℕ) : sProp 𝕄 := iprop(∃ W, owes (c : Thread nD τ) O W)

theorem stepOf_send (h : ℕ) : 3 * (h / 3) + (sl h).val = h := by unfold sl; show 3 * (h / 3) + h % 3 = h; omega
theorem stepOf_recv (h : ℕ) : 3 * (h / 3) + ((sl (h + 1)).val + 2) % 3 = h := by
  unfold sl; show 3 * (h / 3) + ((h + 1) % 3 + 2) % 3 = h; omega

theorem sendPay_step (δ : Bool) (c : Dev nD) (h : ℕ) :
    sendPay m ρ δ (sl h) c (h / 3) = has δ (sl h) c fullShare.left (chunk m ρ δ (org δ h c)) := by unfold sendPay; rw [stepOf_send]
theorem recvPay_step (δ : Bool) (c : Dev nD) (h : ℕ) :
    recvPay m ρ δ (sl (h + 1)) c (h / 3) = has δ (sl (h + 1)) c fullShare (chunk m ρ δ (org δ (h + 1) c)) := by
  unfold recvPay; rw [stepOf_recv]

theorem mem_send {δ : Bool} {t : Fin 3} {c : Dev nD} {r : ℕ} (hr : r < 5) : 0 ∈ (rd (F := F) m ρ).duties (cell c (.send δ t)) r := by
  rw [duties_cell]; show 0 ∈ if r < 5 then ({0} : Finset ℕ) else ∅; rw [if_pos hr]; exact Finset.mem_singleton_self 0
theorem mem_recv {δ : Bool} {t : Fin 3} {c : Dev nD} {r : ℕ} (hr : r < 5) : 0 ∈ (rd (F := F) m ρ).duties (cell c (.recv δ t)) r := by
  rw [duties_cell]; show 0 ∈ if r < 5 then ({0} : Finset ℕ) else ∅; rw [if_pos hr]; exact Finset.mem_singleton_self 0

/-! ## Reads and writes of a slot -/

theorem slotM_set (δ : Bool) (t : Fin 3) : (slotM δ t).view.set = (slotV δ t).set := View.set_reshape _ _

theorem slotM_read (δ : Bool) (t : Fin 3) (c : Dev nD) (f : Buf (Elt F) (cloc δ c)) (y : S256x8192.Idx) :
    (slotM δ t).view.read (Elt F) f y = (slotV δ t).read (Elt F) f (Shape.reshapeEquiv squeezes_S1x256x8192_S256x8192.numel_eq y) := rfl

/-- A landed slot reads what the sent slot read. -/
theorem read_landed (δ : Bool) (s r : Fin 3) (c n : Dev nD) (fs : Buf (Elt F) (cloc δ c)) (fd : Buf (Elt F) (cloc δ n)) :
    (slotV δ r).read (Elt F) ((slotM δ r).view.write (Elt F) fd ((slotM δ s).view.read (Elt F) fs) Finset.univ)
      = (slotV δ s).read (Elt F) fs := by
  funext x
  have h := congrFun (View.read_write_univ (v := (slotM δ r).view) fd ((slotM δ s).view.read (Elt F) fs))
    ((Shape.reshapeEquiv squeezes_S1x256x8192_S256x8192.numel_eq).symm x)
  have h1 := slotM_read δ r n ((slotM δ r).view.write (Elt F) fd ((slotM δ s).view.read (Elt F) fs) Finset.univ)
    ((Shape.reshapeEquiv squeezes_S1x256x8192_S256x8192.numel_eq).symm x)
  have h2 := slotM_read δ s c fs ((Shape.reshapeEquiv squeezes_S1x256x8192_S256x8192.numel_eq).symm x)
  rw [Equiv.apply_symm_apply] at h1 h2
  exact h1.symm.trans (h.trans h2)

/-! ## Payloads by step -/

theorem pay_send (δ : Bool) (c : Dev nD) (h : ℕ) :
    (rd (F := F) m ρ).payload (cell c (.send δ (sl h))) (h / 3) 0 = has δ (sl h) c fullShare.left (chunk m ρ δ (org δ h c)) :=
  (payload_cell m ρ c (.send δ (sl h)) (h / 3) 0).trans (sendPay_step m ρ δ c h)
theorem pay_recv (δ : Bool) (c : Dev nD) (h : ℕ) :
    (rd (F := F) m ρ).payload (cell c (.recv δ (sl (h + 1)))) (h / 3) 0 = has δ (sl (h + 1)) c fullShare (chunk m ρ δ (org δ (h + 1) c)) :=
  (payload_cell m ρ c (.recv δ (sl (h + 1))) (h / 3) 0).trans (recvPay_step m ρ δ c h)

theorem into_send (δ : Bool) (c : Dev nD) (h : ℕ) (fs : Buf (Elt F) (cloc δ c)) (hfs : (slotV δ (sl h)).read (Elt F) fs = chunk m ρ δ (org δ h c)) :
    (cloc δ c ↦[(slotM δ (sl h)).view.set]{fullShare.left} fs) ⊢ (rd (F := F) m ρ).payload (cell c (.send δ (sl h))) (h / 3) 0 := by
  rw [slotM_set, pay_send]; unfold has
  iintro H; iexists fs; isplitr; · (ipureintro; exact hfs)
  iexact H
theorem into_recv (δ : Bool) (c n : Dev nD) (hn : pv δ n = c) (h : ℕ) (r : Fin 3) (hr : r = sl (h + 1)) (fs : Buf (Elt F) (cloc δ c))
    (fd : Buf (Elt F) (cloc δ n)) (hfs : (slotV δ (sl h)).read (Elt F) fs = chunk m ρ δ (org δ h c)) :
    (cloc δ n ↦[(slotM δ r).view.set]{fullShare} ((slotM δ r).view.write (Elt F) fd ((slotM δ (sl h)).view.read (Elt F) fs) Finset.univ))
      ⊢ (rd (F := F) m ρ).payload (cell n (.recv δ r)) (h / 3) 0 := by
  subst hr
  rw [slotM_set, pay_recv, org_succ, hn]; unfold has
  iintro H; iexists _; isplitr [H]; · (ipureintro; exact (read_landed δ (sl h) (sl (h + 1)) c n fs fd).trans hfs)
  iexact H

/-! ## The transfer -/

theorem wp_sendP (κ : Dev nD × Kind → ℕ) (ν : Key → ℕ) (δ : Bool) (h : ℕ) (hh : h < 15) (c n : Dev nD) (hn : n = nx δ c)
    (O : CellTallies nD τ sig ℕ) (k : PP F) (Q : PUnit → sProp 𝕄) :
    iprop(recs m ρ κ ν ∗ has δ (sl h) c fullShare (chunk m ρ δ (org δ h c)) ∗ slotE δ (sl (h + 1)) (nx δ c)
        ∗ owing c (O + tallyAt (cell (nx δ c) (.recv δ (sl (h + 1)))) h N)
        ∗ dutyTok ER (cell c (.send δ (sl h))) (h / 3) 0 ∗ reached ER (cell c (.send δ (sl h))) (h / 3)
        ∗ dutyTok ER (cell (nx δ c) (.recv δ (sl (h + 1)))) (h / 3) 0 ∗ reached ER (cell (nx δ c) (.recv δ (sl (h + 1)))) (h / 3))
      ⊢ iprop(((has δ (sl h) c fullShare.right (chunk m ρ δ (org δ h c)) ∗ cred (tallyAt (cell c (.send δ (sl h))) 0 N) ∗ owing c O) -∗ wpc c k Q)
          -∗ wpc c (sendP δ (sl h) (sl (h + 1)) n k) Q) := by
  subst hn
  unfold sendP owing slotE slot
  iintro ⟨#HR, Hs, ⟨%fd, Hd⟩, ⟨%W, HO⟩, Ht1, Hr1, Ht2, Hr2⟩ Hk
  ihave Hs' := (has_split δ (sl h) c _) $$ Hs
  icases Hs' with ⟨Hl, Hr⟩
  unfold has
  icases Hl with ⟨%fs, %hfs, Hl⟩
  iapply (Rounds.wp_send_pointsTo 𝒱₀ ER (rd m ρ) (c : Thread nD τ) none (c' := (nx δ c : Thread nD τ)) (κ₁ := κ (c, .send δ (sl h))) (κ₂ := κ (nx δ c, .recv δ (sl (h + 1))))
    (r₁ := h / 3) (r₂ := h / 3) (d₁ := 0) (d₂ := 0) (src := slotM δ (sl h)) (dst := slotM δ (sl (h + 1))) (fs := fs) (fd := fd) (q := fullShare.left)
    (mem_send m ρ (by omega)) (mem_recv m ρ (by omega))
    h 0 N (credit_eq δ (sl (h + 1))) (amount_cell m ρ c (.send δ (sl h)) _ _) (amount_cell m ρ (nx δ c) (.recv δ (sl (h + 1))) _ _) O rfl (W := W)
    (into_send m ρ δ c h fs hfs) (into_recv m ρ δ c (nx δ c) (pv_nx δ c) h (sl (h + 1)) rfl fs fd hfs)) $$ [Hl Hd HO Ht1 Hr1 Ht2 Hr2]
  · isplitr; · iapply (recs_cell m ρ κ ν c (.send δ (sl h))); iexact HR
    isplitr; · iapply (recs_cell m ρ κ ν (nx δ c) (.recv δ (sl (h + 1)))); iexact HR
    isplitl [Hl]; · rw [slotM_set]; iexact Hl
    isplitl [Hd]; · rw [slotM_set]; iexact Hd
    isplitl [HO]; · iexact HO
    isplitl [Ht1]; · iexact Ht1
    isplitl [Hr1]; · iexact Hr1
    isplitl [Ht2] <;> iassumption
  iintro ⟨Hc, HO⟩
  iapply Hk
  isplitl [Hr]; · iexact Hr
  isplitl [Hc]; · iexact Hc
  iexists W; iexact HO

end Cert.RingGemm

end
-- ==== Proof.Waits.lean ====
/-
The waits of a transfer.
-/
module

public import proofs.«01_k».proof.Proof.Ops

@[expose] public section

set_option maxRecDepth 20000

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)
variable (κ : Dev nD × Kind → ℕ) (ν : Key → ℕ)

theorem expect_send (c : Dev nD) (δ : Bool) (t : Fin 3) {r : ℕ} (hr : r < 5) : (rd (F := F) m ρ).expect (cell c (.send δ t)) r = N := by
  rw [expect_cell]; show (if r < 5 then ({0} : Finset ℕ) else ∅).card * N = N; rw [if_pos hr, Finset.card_singleton, one_mul]
theorem expect_recv (c : Dev nD) (δ : Bool) (t : Fin 3) {r : ℕ} (hr : r < 5) : (rd (F := F) m ρ).expect (cell c (.recv δ t)) r = N := by
  rw [expect_cell]; show (if r < 5 then ({0} : Finset ℕ) else ∅).card * N = N; rw [if_pos hr, Finset.card_singleton, one_mul]
theorem rest_send (c : Dev nD) (δ : Bool) {h : ℕ} (hh : h < 15) :
    (bigSep ((rd (F := F) m ρ).duties (cell c (.send δ (sl h))) (h / 3) \ ∅) fun d => (rd (F := F) m ρ).payload (cell c (.send δ (sl h))) (h / 3) d)
      = has δ (sl h) c fullShare.left (chunk m ρ δ (org δ h c)) := by
  rw [Finset.sdiff_empty, duties_cell]
  show bigSep (if h / 3 < 5 then ({0} : Finset ℕ) else ∅) _ = _
  rw [if_pos (by omega), bigSep_singleton]; exact pay_send m ρ δ c h
theorem rest_recv (c : Dev nD) (δ : Bool) {h : ℕ} (hh : h < 15) :
    (bigSep ((rd (F := F) m ρ).duties (cell c (.recv δ (sl (h + 1)))) (h / 3) \ ∅) fun d => (rd (F := F) m ρ).payload (cell c (.recv δ (sl (h + 1)))) (h / 3) d)
      = has δ (sl (h + 1)) c fullShare (chunk m ρ δ (org δ (h + 1) c)) := by
  rw [Finset.sdiff_empty, duties_cell]
  show bigSep (if h / 3 < 5 then ({0} : Finset ℕ) else ∅) _ = _
  rw [if_pos (by omega), bigSep_singleton]; exact pay_recv m ρ δ c h

theorem recs_mayWait (c : Dev nD) (k : Kind) (i : ℕ) (hi : i < 16) (O : CellTallies nD τ sig ℕ) (h : Above (kLv (some k) i) O) :
    recs m ρ κ ν ⊢ MayWait (c : Thread nD τ) (csem k) i O := by
  have h' : Above (lv ((c : Thread nD τ), csem k) i) O := by rw [lv_cell c k i]; exact h
  iintro H
  iapply (mayWait (F := F) c (csem k) i hi O h')
  iapply (recs_lev m ρ κ ν)
  iexact H

theorem waitSend_eq (δ : Bool) (s r : Fin 3) (c : Dev nD) (K : PUnit → sProp 𝕄) :
    wpE (defs₀ (F := F)) 𝒱₀ (c : Thread nD τ) none Set.univ (.waitDma2 (sendS δ s) (slotM δ r) (slotM δ s) (slotW δ r) (slotW δ s)) K
      = waitSpec (c : Thread nD τ) Set.univ (csem (.send δ s)) N K := by
  rw [wpE_waitDma2_eq, credit_eq]; rfl
theorem waitRecv_eq (δ : Bool) (s r : Fin 3) (c : Dev nD) (K : PUnit → sProp 𝕄) :
    wpE (defs₀ (F := F)) 𝒱₀ (c : Thread nD τ) none Set.univ (.waitDma2 (recvS δ r) (slotM δ s) (slotM δ r) (slotW δ s) (slotW δ r)) K
      = waitSpec (c : Thread nD τ) Set.univ (csem (.recv δ r)) N K := by
  rw [wpE_waitDma2_eq, credit_eq]; rfl

theorem wp_waitP (δ : Bool) (h : ℕ) (hh : h < 15) (c : Dev nD) (O : CellTallies nD τ sig ℕ) (hO : Above (2 * h + 2) O) (k : PP F) (Q : PUnit → sProp 𝕄) :
    iprop(recs m ρ κ ν ∗ has δ (sl h) c fullShare.right (chunk m ρ δ (org δ h c)) ∗ cred (tallyAt (cell c (.send δ (sl h))) 0 N)
        ∗ cred (tallyAt (cell c (.recv δ (sl (h + 1)))) h N) ∗ owing c O
        ∗ atPos ER (cell c (.send δ (sl h))) (h / 3) ∅ 0 ∗ atPos ER (cell c (.recv δ (sl (h + 1)))) (h / 3) ∅ 0)
      ⊢ iprop(((has δ (sl h) c fullShare (chunk m ρ δ (org δ h c)) ∗ has δ (sl (h + 1)) c fullShare (chunk m ρ δ (org δ (h + 1) c)) ∗ owing c O
            ∗ (atPos ER (cell c (.send δ (sl h))) (h / 3 + 1) ∅ 0 ∗ reached ER (cell c (.send δ (sl h))) (h / 3 + 1))
            ∗ (atPos ER (cell c (.recv δ (sl (h + 1)))) (h / 3 + 1) ∅ 0 ∗ reached ER (cell c (.recv δ (sl (h + 1)))) (h / 3 + 1))) -∗ wpc c k Q)
          -∗ wpc c (waitP δ (sl h) (sl (h + 1)) k) Q) := by
  unfold waitP owing
  iintro ⟨#HR, Hr, HcS, HcV, ⟨%W, HO⟩, HaS, HaV⟩ Hk
  iapply (Rounds.wp_wait_rest_token 𝒱₀ ER (rd m ρ) (c : Thread nD τ) none (κ := κ (c, .send δ (sl h))) (sm := csem (.send δ (sl h))) (k' := N)
      (waitSend_eq δ (sl h) (sl (h + 1)) c) (Set.mem_univ _) 0 (O := O) (W := W) (R := h / 3) (m := 0) (T := ∅)
      (by rw [Nat.zero_add, expect_send m ρ c δ _ (by omega)])) $$ [HcS HO HaS]
  · isplitr; · iapply (recs_cell m ρ κ ν c (.send δ (sl h))); iexact HR
    isplitl [HcS]; · iexact HcS
    isplitl [HO]; · iexact HO
    isplitr; · iapply (recs_mayWait m ρ κ ν c (.send δ (sl h)) 0 (by omega) O (hO.mono (Nat.zero_le _))); iexact HR
    iexact HaS
  iintro ⟨HO, HaS, HrS, Hp⟩
  ihave Hl := (Entails.of_eq (rest_send m ρ c δ hh)) $$ Hp
  iapply (Rounds.wp_wait_rest_token 𝒱₀ ER (rd m ρ) (c : Thread nD τ) none (κ := κ (c, .recv δ (sl (h + 1)))) (sm := csem (.recv δ (sl (h + 1)))) (k' := N)
      (waitRecv_eq δ (sl h) (sl (h + 1)) c) (Set.mem_univ _) h (O := O) (R := h / 3) (m := 0) (T := ∅)
      (by rw [Nat.zero_add, expect_recv m ρ c δ _ (by omega)])) $$ [HcV HO HaV]
  · isplitr; · iapply (recs_cell m ρ κ ν c (.recv δ (sl (h + 1)))); iexact HR
    isplitl [HcV]; · iexact HcV
    isplitl [HO]; · iexact HO
    isplitr; · iapply (recs_mayWait m ρ κ ν c (.recv δ (sl (h + 1))) h (by omega) O hO); iexact HR
    iexact HaV
  iintro ⟨HO, HaV, HrV, Hp⟩
  ihave Hn := (Entails.of_eq (rest_recv m ρ c δ hh)) $$ Hp
  ihave Hs := (has_join δ (sl h) c _) $$ [Hl Hr]
  · isplitl [Hl] <;> iassumption
  iapply Hk
  isplitl [Hs]; · iexact Hs
  isplitl [Hn]; · iexact Hn
  isplitl [HO]; · iexists _; iexact HO
  isplitl [HaS HrS]
  · isplitl [HaS] <;> iassumption
  isplitl [HaV] <;> iassumption

end Cert.RingGemm

end
-- ==== Proof.Credits.lean ====
/-
The credits: given back at a step's end with the slot it frees, waited for before a later transfer into that slot.
-/
module

public import proofs.«01_k».proof.Proof.Waits

@[expose] public section

set_option maxRecDepth 20000

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)
variable (κ : Dev nD × Kind → ℕ) (ν : Key → ℕ)

/-! ## A credit given back -/

theorem facts_succ (δ : Bool) (c : Dev nD) (n : ℕ) : iprop(facts δ c n ∗ fact δ c n) ⊢ (facts δ c (n + 1) : sProp 𝕄) := by
  unfold facts
  rw [Finset.range_add_one, bigSep_insert Finset.notMem_range_self]
  exact Idealize.SL.BI.sep_comm

theorem facts_elim (δ : Bool) (c : Dev nD) {n i : ℕ} (h : i < n) : facts δ c n ⊢ (fact δ c i : sProp 𝕄) := by
  unfold facts
  exact bigSep_elim (Φ := fact (F := F) δ c) (Finset.mem_range.mpr h)

theorem mem_cred (δ : Bool) (c : Dev nD) {i : ℕ} (hi : i < 13) : i ∈ (rd (F := F) m ρ).duties (cell c (.cred δ)) 0 := by
  rw [duties_cell]; exact Finset.mem_range.mpr hi

theorem pay_cred (δ : Bool) (c : Dev nD) (h : ℕ) : (rd (F := F) m ρ).payload (cell (pv δ c) (.cred δ)) 0 h = facts δ c (h + 1) := by
  rw [payload_cell]; show facts δ (nx δ (pv δ c)) (h + 1) = _; rw [nx_pv]

/-- Step `h`'s slot is released and the credit for it goes to the stream's sender. -/
theorem wp_credit (δ : Bool) (h : ℕ) (hh : h < 13) (c n : Dev nD) (hn : n = pv δ c) (O : CellTallies nD τ sig ℕ) (k : PUnit → PP F) (Q : PUnit → sProp 𝕄) :
    iprop(recs m ρ κ ν ∗ slotE δ (sl h) c ∗ readerAt ES (c, δ, sl h) (h / 3) ∗ facts δ c h ∗ reached ER (cell c (.recv δ (sl h))) ((h + 2) / 3)
        ∗ owing c (O + tallyAt (cell (pv δ c) (.cred δ)) h 1) ∗ dutyTok ER (cell (pv δ c) (.cred δ)) 0 h)
      ⊢ iprop(((readerAt ES (c, δ, sl h) (h / 3 + 1) ∗ facts δ c (h + 1) ∗ owing c O) -∗ wpc c (k ⟨⟩) Q)
          -∗ wpc c (.op (.semSignal (Dev.tc n : Thread nD τ) (credS δ) (1#32).toInt) k) Q) := by
  subst hn
  unfold owing
  iintro ⟨#HR, Hs, Hrd, #Hf, #Hre, ⟨%W, HO⟩, Ht⟩ Hk
  imod (slot_release ES (ι := ν (c, δ, sl h)) (Set.mem_univ _) (slotE_excl δ (sl h) c) (h / 3)) $$ [Hs Hrd] with ⟨Hrd, #Hrel⟩
  · isplitr; · iapply (recs_slot m ρ κ ν (c, δ, sl h)); iexact HR
    isplitl [Hrd] <;> iassumption
  have hfs : iprop(facts δ c h ∗ released ES (c, δ, sl h) (h / 3 + 1) ∗ reached ER (cell c (.recv δ (sl h))) ((h + 2) / 3)) ⊢ (facts δ c (h + 1) : sProp 𝕄) := by
    iintro ⟨H, H1, H2⟩
    iapply (facts_succ δ c h)
    isplitl [H]; · iexact H
    unfold fact
    isplitl [H1] <;> iassumption
  have hpc : facts δ c (h + 1) ⊢ (rd (F := F) m ρ).payload (((pv δ c : Dev nD) : Thread nD τ), SemLoc.reg (credS δ)) 0 h :=
    Entails.of_eq (pay_cred m ρ δ c h).symm
  ihave #Hf' := hfs $$ []
  · isplitr; · iexact Hf
    isplitr; · iexact Hrel
    iexact Hre
  iapply (Rounds.wp_signal 𝒱₀ ER (rd m ρ) (c : Thread nD τ) none (dst := (pv δ c : Thread nD τ)) (κ := κ (pv δ c, .cred δ))
      (r := 0) (d := h) (mem_cred m ρ δ (pv δ c) hh) ((amount_cell m ρ (pv δ c) (.cred δ) 0 h).trans rfl) h O rfl) $$ [HO Ht]
  · isplitr; · iapply (recs_cell m ρ κ ν (pv δ c) (.cred δ)); iexact HR
    isplitl [HO]; · iexact HO
    isplitl [Ht]; · iexact Ht
    isplitr
    · iapply hpc; iexact Hf'
    iapply (recs_reached m ρ κ ν (pv δ c) (.cred δ)); iexact HR
  iintro HO
  iapply Hk
  isplitl [Hrd]; · iexact Hrd
  isplitr; · iexact Hf'
  iexists W; iexact HO

/-! ## A credit waited for -/

instance credPay_persistent (δ : Bool) (c : Dev nD) (i : ℕ) : BI.Persistent (credPay (F := F) δ c i) := by unfold credPay; infer_instance

/-- Stream `δ`'s credit cell on `c` after `j` waits: some of its duties, at least `j`, and what they carry. -/
def credAt (δ : Bool) (c : Dev nD) (j : ℕ) : sProp 𝕄 :=
  iprop(∃ S : Finset ℕ, ⌜j ≤ S.card ∧ S ⊆ Finset.range 13⌝ ∗ atPos ER (cell c (.cred δ)) 0 S j ∗ bigSep S (credPay δ c))

theorem pays_fact (δ : Bool) (c : Dev nD) (S : Finset ℕ) (j : ℕ) (hj : j + 1 ≤ S.card) :
    bigSep S (credPay δ c) ⊢ (fact δ (nx δ c) j : sProp 𝕄) := by
  obtain ⟨i, hi, hji⟩ : ∃ i ∈ S, j ≤ i := by
    by_contra hne
    have : S ⊆ Finset.range j := fun i hi => Finset.mem_range.mpr (by by_contra h'; exact hne ⟨i, hi, by omega⟩)
    have := Finset.card_le_card this
    rw [Finset.card_range] at this; omega
  refine (bigSep_elim (Φ := credPay (F := F) δ c) hi).trans ?_
  unfold credPay
  exact facts_elim δ (nx δ c) (by omega)

theorem expect_cred (c : Dev nD) (δ : Bool) : (rd (F := F) m ρ).expect (cell c (.cred δ)) 0 = 13 := by
  rw [expect_cell]; show (Finset.range 13).card * 1 = 13; rw [Finset.card_range]

theorem wp_creditWait (δ : Bool) (j : ℕ) (hj : j < 13) (c : Dev nD) (O : CellTallies nD τ sig ℕ) (hO : Above (2 * j + 3) O) (k : PUnit → PP F) (Q : PUnit → sProp 𝕄) :
    iprop(recs m ρ κ ν ∗ credAt δ c j ∗ cred (tallyAt (cell c (.cred δ)) j 1) ∗ owing c O)
      ⊢ iprop(((credAt δ c (j + 1) ∗ fact δ (nx δ c) j ∗ owing c O) -∗ wpc c (k ⟨⟩) Q)
          -∗ wpc c (.op (.semWait (credS δ) (1#32).toInt) k) Q) := by
  unfold credAt owing
  iintro ⟨#HR, ⟨%S, %hS, Ha, #Hp⟩, Hc, ⟨%W, HO⟩⟩ Hk
  iapply (Rounds.wp_wait 𝒱₀ ER (rd m ρ) (c : Thread nD τ) none (κ := κ (c, .cred δ)) (sm := csem (.cred δ)) (k' := 1)
      (wpE_semWait_eq 𝒱₀ (c : Thread nD τ) none Set.univ) (Set.mem_univ _) (cr := Finsupp.single j 1) (O := O) (W := W) {(csem (.cred δ), j)}
      (R := 0) (m := j) (T := S) (by rw [Util.total_single]) (image_single_subset _ _ _)) $$ [Hc HO Ha]
  · isplitr; · iapply (recs_cell m ρ κ ν c (.cred δ)); iexact HR
    isplitl [Hc]; · iexact Hc
    isplitl [HO]; · iexact HO
    isplitr; · iapply (recs_mayWait m ρ κ ν c (.cred δ) j (by omega) O hO); iexact HR
    iexact Ha
  iintro %S' ⟨%hS', HO, Ha, Hp'⟩
  obtain ⟨h1, h2, h3⟩ := hS'
  have hpay : ∀ d, (rd (F := F) m ρ).payload (cell c (.cred δ)) 0 d = credPay δ c d := fun d => payload_cell m ρ c (.cred δ) 0 d
  rw [duties_cell] at h2
  have hcard : j + 1 ≤ S'.card := by
    rw [expect_cred, duties_cell] at h3
    have h2' : S' ⊆ Finset.range 13 := h2
    have h3' : j + 1 + (Finset.range 13 \ S').card ≤ 13 := h3
    have := Finset.card_sdiff_add_card_eq_card h2'
    rw [Finset.card_range] at this
    omega
  have hjoin : iprop(bigSep S (credPay δ c) ∗ bigSep (S' \ S) (fun d => (rd (F := F) m ρ).payload (cell c (.cred δ)) 0 d)) ⊢ bigSep S' (credPay δ c) := by
    rw [bigSep_congr (fun d _ => hpay d), bigSep_sdiff_split h1]; exact .rfl
  ihave #Hp'' := hjoin $$ [Hp']
  · isplitr; · iexact Hp
    iexact Hp'
  iapply Hk
  isplitl [Ha]
  · iexists S'
    isplitr; · (ipureintro; exact ⟨hcard, h2⟩)
    isplitl [Ha]; · iexact Ha
    iexact Hp''
  isplitr; · iapply (pays_fact δ c S' j hcard); iexact Hp''
  iexists _; iexact HO

end Cert.RingGemm

end
-- ==== Proof.Store.lean ====
/-
A block of the result computed from a slot and stored, and where the blocks lie.
-/
module

public import proofs.«01_k».proof.Proof.Credits
public import Idealize.ShloMosaic.Lib.Pointwise.Index
public import Idealize.ShloMosaic.Lib.Pipeline.ValueKit.Geometry

@[expose] public section

set_option maxRecDepth 20000

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)
variable (κ : Dev nD × Kind → ℕ) (ν : Key → ℕ)

/-! ## The result by rows -/

/-- The first row of the block that stream `δ` brings of device `o`. -/
def ofs (δ : Bool) (o : Dev nD) : ℕ := o.val * 512 + (if δ then 0 else 256)

/-- What device `c` computes: at a row, the block of the device and the half the row lies in. -/
def outV (c : Dev nD) : (cc0_stg2_0 : Ref sig .tc).ty.Contents (Elt F) := fun (i : S8192x256.Idx) =>
  gemm (chunk m ρ (decide ((i 0).val % 512 < 256)) ⟨(i 0).val / 512, by have h : (i 0).val < 8192 := (i 0).isLt; show _ < 16; omega⟩) (wstg m ρ c)
    (ix2 (n0 := 256) (n1 := 256) ⟨(i 0).val % 256, Nat.mod_lt _ (by decide)⟩ ⟨(i 1).val, (i 1).isLt⟩)

/-- The blocks stored so far, `n δ` of stream `δ`, hold the result. -/
def Good (c : Dev nD) (n : Bool → ℕ) (f : (cc0_stg2_0 : Ref sig .tc).ty.Contents (Elt F)) : Prop :=
  ∀ δ h, h < n δ → ∀ i : S8192x256.Idx, ofs δ (org δ h c) ≤ (i 0).val → (i 0).val < ofs δ (org δ h c) + 256 → f i = outV m ρ c i

theorem org_onto : ∀ (δ : Bool) (c o : Dev nD), ∃ h : Fin 16, org δ h.val c = o := by decide +kernel

theorem good_all (c : Dev nD) (n : Bool → ℕ) (hn : ∀ δ, n δ = 16) (f : (cc0_stg2_0 : Ref sig .tc).ty.Contents (Elt F)) (hf : Good m ρ c n f) : f = outV m ρ c := by
  refine funext fun (i : S8192x256.Idx) => ?_
  have hi : (i 0).val < 8192 := (i 0).isLt
  obtain ⟨h, hh⟩ := org_onto (decide ((i 0).val % 512 < 256)) c ⟨(i 0).val / 512, by show _ < 16; omega⟩
  refine hf (decide ((i 0).val % 512 < 256)) h.val (by rw [hn]; exact h.isLt) i ?_ ?_
  · rw [hh]; unfold ofs
    by_cases hb : (i 0).val % 512 < 256
    · rw [decide_eq_true hb]; show (i 0).val / 512 * 512 + 0 ≤ _; omega
    · rw [decide_eq_false hb]; show (i 0).val / 512 * 512 + 256 ≤ _; omega
  · rw [hh]; unfold ofs
    by_cases hb : (i 0).val % 512 < 256
    · rw [decide_eq_true hb]; show _ < (i 0).val / 512 * 512 + 0 + 256; omega
    · rw [decide_eq_false hb]; show _ < (i 0).val / 512 * 512 + 256 + 256; omega

theorem good_none (c : Dev nD) (f : (cc0_stg2_0 : Ref sig .tc).ty.Contents (Elt F)) : Good m ρ c (fun _ => 0) f :=
  fun _ _ h => absurd h (Nat.not_lt_zero _)

/-- At a row of stream `δ`'s block of `o`, the result is that block's. -/
theorem outV_block (c o : Dev nD) (δ : Bool) (i : S8192x256.Idx) (x : S256x256.Idx) (h0 : (i 0).val = ofs δ o + (x 0).val) (h1 : (i 1).val = (x 1).val) :
    outV m ρ c i = gemm (chunk m ρ δ o) (wstg m ρ c) x := by
  have hx : (x 0).val < 256 := (x 0).isLt
  have ho : o.val < 16 := o.isLt
  have e1 : decide ((i 0).val % 512 < 256) = δ := by
    rw [h0]; unfold ofs
    cases δ
    · exact decide_eq_false (by show ¬(o.val * 512 + 256 + (x 0).val) % 512 < 256; omega)
    · exact decide_eq_true (by show (o.val * 512 + 0 + (x 0).val) % 512 < 256; omega)
  have e2 : (i 0).val / 512 = o.val := by
    rw [h0]; unfold ofs
    cases δ
    · show (o.val * 512 + 256 + (x 0).val) / 512 = o.val; omega
    · show (o.val * 512 + 0 + (x 0).val) / 512 = o.val; omega
  have e3 : (i 0).val % 256 = (x 0).val := by
    rw [h0]; unfold ofs
    cases δ
    · show (o.val * 512 + 256 + (x 0).val) % 256 = (x 0).val; omega
    · show (o.val * 512 + 0 + (x 0).val) % 256 = (x 0).val; omega
  have e4 : (ix2 (n0 := 256) (n1 := 256) ⟨(i 0).val % 256, Nat.mod_lt _ (by decide)⟩ ⟨(i 1).val, (i 1).isLt⟩ : S256x256.Idx) = x := by
    rw [eq_ix2 x]
    exact (ix2_inj _ _ _ _).mpr ⟨Fin.ext e3, Fin.ext h1⟩
  unfold outV
  rw [e4]
  congr 2
  exact Fin.ext e2

theorem good_store (c : Dev nD) (δ : Bool) (h : ℕ) (n n' : Bool → ℕ) (hn : ∀ δ', δ' ≠ δ → n' δ' ≤ n δ') (hδ : h ≤ n δ) (hδ' : n' δ ≤ h + 1)
    (o : Fin 2 → ℕ) (ho : ∀ a, o a + S256x256.size a ≤ S8192x256.size a) (hoff : o = ![ofs δ (org δ h c), 0])
    (f : (cc0_stg2_0 : Ref sig .tc).ty.Contents (Elt F)) (hf : Good m ρ c n f) :
    Good m ρ c n' ((oM.access (rO o ho)).write (Elt F) f (gemm (chunk m ρ δ (org δ h c)) (wstg m ρ c)) Finset.univ) := by
  subst hoff
  intro δ' h' hh' i hi1 hi2
  by_cases hin : ofs δ (org δ h c) ≤ (i 0).val ∧ (i 0).val < ofs δ (org δ h c) + 256
  · have hi : i = (oM.access (rO ![ofs δ (org δ h c), 0] ho)).emb (ix2 (n0 := 256) (n1 := 256) ⟨(i 0).val - ofs δ (org δ h c), by omega⟩ ⟨(i 1).val, (i 1).isLt⟩) := by
      refine funext fun a => Fin.ext ?_
      refine Eq.trans ?_ (ValueKit.view_emb_slice_whole_unit_val cc0_stg2_0 ![ofs δ (org δ h c), 0] S256x256.size ho _ a).symm
      match a with
      | ⟨0, _⟩ => show (i 0).val = ofs δ (org δ h c) + ((i 0).val - ofs δ (org δ h c)); omega
      | ⟨1, _⟩ => show (i 1).val = 0 + (i 1).val; omega
    refine Eq.trans ?_ (outV_block m ρ c (org δ h c) δ i (ix2 (n0 := 256) (n1 := 256) ⟨(i 0).val - ofs δ (org δ h c), by omega⟩ ⟨(i 1).val, (i 1).isLt⟩)
      (by show (i 0).val = ofs δ (org δ h c) + ((i 0).val - ofs δ (org δ h c)); omega) rfl).symm
    refine (congrArg _ hi).trans ?_
    exact View.write_emb_of_mem _ _ (Finset.mem_univ _)
  · have hni : i ∉ (oM.access (rO ![ofs δ (org δ h c), 0] ho)).setOn Finset.univ := by
      rw [View.setOn_univ]
      intro hm
      obtain ⟨x, -, hx⟩ := Finset.mem_map.mp hm
      have e := ValueKit.view_emb_slice_whole_unit_val cc0_stg2_0 ![ofs δ (org δ h c), 0] S256x256.size ho x 0
      have e' : (i 0).val = ofs δ (org δ h c) + (x 0).val := (congrArg (fun j : S8192x256.Idx => (j 0).val) hx.symm).trans e
      have hx' : (x 0).val < 256 := (x 0).isLt
      exact hin ⟨by omega, by omega⟩
    refine (View.write_of_not_mem _ _ _ hni).trans (hf δ' h' ?_ i hi1 hi2)
    by_cases hd : δ' = δ
    · subst hd
      rcases Nat.lt_or_ge h' h with hlt | hge
      · omega
      · exfalso
        have : h' = h := by omega
        subst this
        exact hin ⟨hi1, hi2⟩
    · exact lt_of_lt_of_le hh' (hn δ' hd)

/-! ## The store -/

def wHeld (c : Dev nD) : sProp 𝕄 := ((c : Thread nD τ).loc cc0_stg1_0) ↦{fullShare} (wstg m ρ c)
def outHeld (c : Dev nD) (n : Bool → ℕ) : sProp 𝕄 :=
  iprop(∃ f : Buf (Elt F) ((c : Thread nD τ).loc cc0_stg2_0), ⌜Good m ρ c n f⌝ ∗ (((c : Thread nD τ).loc cc0_stg2_0) ↦{fullShare} f))

theorem hz2 : (![0, 0] : Fin 2 → Nat) = fun _ => 0 := funext fun a => by fin_cases a <;> rfl
theorem read_w (f : (cc0_stg1_0 : Ref sig .tc).ty.Contents (Elt F)) : wM.view.readAt (Elt F) rW.toLoadRect f = f :=
  Memref.readAt_unit_zero (Elt F) cc0_stg1_0 hz2 _ f

theorem slot_setOn (δ : Bool) (t : Fin 3) : (commM δ).view.setOn (rS t).toLoadRect.set ⊆ (slotV δ t).set := by
  rw [View.set_slice]; exact subset_rfl

theorem wp_storeP (δ : Bool) (h : ℕ) (c : Dev nD) (q : PosShare TreeShare) (n n' : Bool → ℕ) (hn : ∀ δ', δ' ≠ δ → n' δ' ≤ n δ') (hδ : h ≤ n δ)
    (hδ' : n' δ ≤ h + 1) (o : Fin 2 → ℕ) (ho : ∀ a, o a + S256x256.size a ≤ S8192x256.size a) (hoff : o = ![ofs δ (org δ h c), 0])
    (k : PP F) (Q : PUnit → sProp 𝕄) :
    iprop(has δ (sl h) c q (chunk m ρ δ (org δ h c)) ∗ wHeld m ρ c ∗ outHeld m ρ c n)
      ⊢ iprop(((has δ (sl h) c q (chunk m ρ δ (org δ h c)) ∗ wHeld m ρ c ∗ outHeld m ρ c n') -∗ wpc c k Q)
          -∗ wpc c (storeP δ (sl h) o ho k) Q) := by
  unfold storeP wHeld outHeld has
  iintro ⟨⟨%f, %hf, Hs⟩, Hw, ⟨%g, %hg, Ho⟩⟩ Hk
  iapply (wp_load 𝒱₀ (c : Thread nD τ) none Set.univ (m := commM δ) (slot_setOn δ (sl h))) $$ Hs; iintro Hs
  rw [show (commM δ).view.readAt (Elt F) (rS (sl h)).toLoadRect f = chunk m ρ δ (org δ h c) from hf]
  iapply (wp_load 𝒱₀ (c : Thread nD τ) none Set.univ (m := wM) (Finset.subset_univ _)) $$ Hw; iintro Hw
  rw [read_w]
  iapply (wp_load 𝒱₀ (c : Thread nD τ) none Set.univ (m := oM) (Finset.subset_univ _)) $$ Ho; iintro Ho
  iapply (wp_store 𝒱₀ (c : Thread nD τ) none Set.univ (m := oM) (r := rO o ho) (Mk := Finset.univ) (Finset.subset_univ _)) $$ Ho; iintro Ho
  iapply Hk
  isplitl [Hs]
  · iexists f; isplitr; · (ipureintro; exact hf)
    iexact Hs
  isplitl [Hw]; · iexact Hw
  iexists _
  isplitr [Ho]; · (ipureintro; exact good_store m ρ c δ h n n' hn hδ hδ' o ho hoff g hg)
  iexact Ho

end Cert.RingGemm

end
-- ==== Proof.Step.lean ====
/-
A step around the ring, for a symbolic step number.

What a device holds of a stream between steps is listed by step numbers: the positions of its three send and three receive
cells belong to the next three steps, and each step moves one of them on by three.
-/
module

public import proofs.«01_k».proof.Proof.Store
public import Mathlib.Algebra.BigOperators.Intervals
public import Mathlib.Tactic.Abel
public import Idealize.SL.BI.BigOpNat

@[expose] public section

set_option maxRecDepth 20000

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)
variable (κ : Dev nD × Kind → ℕ) (ν : Key → ℕ)

/-! ## What a device holds between steps -/

theorem sl_add (h : ℕ) : sl (h + 3) = sl h := by unfold sl; exact Fin.ext (Nat.add_mod_right h 3)

/-- The send position, the receive position and the release count that belong to step `j`. -/
def sp (δ : Bool) (c : Dev nD) (j : ℕ) : sProp 𝕄 :=
  iprop(atPos ER (cell c (.send δ (sl j))) (j / 3) ∅ 0 ∗ reached ER (cell c (.send δ (sl j))) (j / 3))
def rp (δ : Bool) (c : Dev nD) (j : ℕ) : sProp 𝕄 :=
  iprop(atPos ER (cell c (.recv δ (sl (j + 1)))) (j / 3) ∅ 0 ∗ reached ER (cell c (.recv δ (sl (j + 1)))) (j / 3))
def rr (δ : Bool) (c : Dev nD) (j : ℕ) : sProp 𝕄 := readerAt ES (c, δ, sl j) (j / 3)
/-- The tokens that belong to step `j`: its transfer's two duties and the credit of what it receives. -/
def mtok (δ : Bool) (c : Dev nD) (j : ℕ) : sProp 𝕄 :=
  iprop(dutyTok ER (cell c (.send δ (sl j))) (j / 3) 0 ∗ dutyTok ER (cell (nx δ c) (.recv δ (sl (j + 1)))) (j / 3) 0
    ∗ cred (tallyAt (cell c (.recv δ (sl (j + 1)))) j N))
/-- Those of the `i`-th credit: giving it back, being given it, and the write it allows. -/
def stok (δ : Bool) (c : Dev nD) (i : ℕ) : sProp 𝕄 := dutyTok ER (cell (pv δ c) (.cred δ)) 0 i
def ctok (δ : Bool) (c : Dev nD) (i : ℕ) : sProp 𝕄 :=
  iprop(cred (tallyAt (cell c (.cred δ)) i 1) ∗ writeTok ES (nx δ c, δ, sl i) (i / 3 + 1))

/-- Stream `δ` before step `h`: the slot to be sent, the positions, the tokens left. -/
def Main (δ : Bool) (c : Dev nD) (h : ℕ) : sProp 𝕄 :=
  iprop(has δ (sl h) c fullShare (chunk m ρ δ (org δ h c)) ∗ (sp δ c h ∗ sp δ c (h + 1) ∗ sp δ c (h + 2))
    ∗ (rp δ c h ∗ rp δ c (h + 1) ∗ rp δ c (h + 2)) ∗ bigSep (Finset.Ico h 15) (mtok δ c))
/-- Its credits to give back from step `h` on. -/
def Giv (δ : Bool) (c : Dev nD) (h : ℕ) : sProp 𝕄 :=
  iprop(facts δ c h ∗ (rr δ c h ∗ rr δ c (h + 1) ∗ rr δ c (h + 2)) ∗ bigSep (Finset.Ico h 13) (stok δ c))
/-- Its credits to wait for after `i` of them. -/
def Tak (δ : Bool) (c : Dev nD) (i : ℕ) : sProp 𝕄 := iprop(credAt δ c i ∗ bigSep (Finset.Ico i 13) (ctok δ c))
/-- The slot step `h` sends into. -/
def Dst (δ : Bool) (c : Dev nD) (h : ℕ) : sProp 𝕄 :=
  iprop(slotE δ (sl (h + 1)) (nx δ c) ∗ reached ER (cell (nx δ c) (.recv δ (sl (h + 1)))) (h / 3))

theorem sp_next (δ : Bool) (c : Dev nD) (h : ℕ) :
    sp δ c (h + 3) = (iprop(atPos ER (cell c (.send δ (sl h))) (h / 3 + 1) ∅ 0 ∗ reached ER (cell c (.send δ (sl h))) (h / 3 + 1)) : sProp 𝕄) := by
  unfold sp; rw [sl_add, Nat.add_div_right h (by decide : 0 < 3)]
theorem rp_next (δ : Bool) (c : Dev nD) (h : ℕ) :
    rp δ c (h + 3) = (iprop(atPos ER (cell c (.recv δ (sl (h + 1)))) (h / 3 + 1) ∅ 0 ∗ reached ER (cell c (.recv δ (sl (h + 1)))) (h / 3 + 1)) : sProp 𝕄) := by
  unfold rp; rw [show h + 3 + 1 = h + 1 + 3 from rfl, sl_add, Nat.add_div_right h (by decide : 0 < 3)]
theorem rr_next (δ : Bool) (c : Dev nD) (h : ℕ) : rr δ c (h + 3) = (readerAt ES (c, δ, sl h) (h / 3 + 1) : sProp 𝕄) := by
  unfold rr; rw [sl_add, Nat.add_div_right h (by decide : 0 < 3)]

/-! ## What a device owes -/

def owM (δ : Bool) (c : Dev nD) (h : ℕ) : CellTallies nD τ sig ℕ := ∑ j ∈ Finset.Ico h 15, tallyAt (cell (nx δ c) (.recv δ (sl (j + 1)))) j N
def owC (δ : Bool) (c : Dev nD) (i : ℕ) : CellTallies nD τ sig ℕ := ∑ j ∈ Finset.Ico i 13, tallyAt (cell (pv δ c) (.cred δ)) j 1

theorem owM_step (δ : Bool) (c : Dev nD) {h : ℕ} (hh : h < 15) : owM δ c h = owM δ c (h + 1) + tallyAt (cell (nx δ c) (.recv δ (sl (h + 1)))) h N := by
  unfold owM; rw [Finset.sum_eq_sum_Ico_succ_bot hh, add_comm]
theorem owC_step (δ : Bool) (c : Dev nD) {i : ℕ} (hi : i < 13) : owC δ c i = owC δ c (i + 1) + tallyAt (cell (pv δ c) (.cred δ)) i 1 := by
  unfold owC; rw [Finset.sum_eq_sum_Ico_succ_bot hi, add_comm]

theorem above_owM (δ : Bool) (c : Dev nD) {n h : ℕ} (hn : n < 2 * h + 2) : Above n (owM δ c h) := by
  unfold owM
  refine above_sum _ _ fun j hj => above_tally _ _ _ _ ?_ ?_
  · have := Finset.mem_Ico.mp hj; omega
  · have := Finset.mem_Ico.mp hj; show n < 2 * j + 2; omega
theorem above_owC (δ : Bool) (c : Dev nD) {n i : ℕ} (hn : n < 2 * i + 3) : Above n (owC δ c i) := by
  unfold owC
  refine above_sum _ _ fun j hj => above_tally _ _ _ _ ?_ ?_
  · have := Finset.mem_Ico.mp hj; omega
  · have := Finset.mem_Ico.mp hj; show n < 2 * j + 3; omega

/-- All that is owed with `h` steps sent on stream `true`, `h'` on `false`, and `i`, `i'` credits given. -/
def ow (c : Dev nD) (h h' i i' : ℕ) : CellTallies nD τ sig ℕ := owM true c h + owM false c h' + owC true c i + owC false c i'

theorem ow_sendT (c : Dev nD) {h : ℕ} (h' i i' : ℕ) (hh : h < 15) : ow c h h' i i' = ow c (h + 1) h' i i' + tallyAt (cell (nx true c) (.recv true (sl (h + 1)))) h N := by
  unfold ow; rw [owM_step true c hh]; abel
theorem ow_sendF (c : Dev nD) {h' : ℕ} (h i i' : ℕ) (hh : h' < 15) : ow c h h' i i' = ow c h (h' + 1) i i' + tallyAt (cell (nx false c) (.recv false (sl (h' + 1)))) h' N := by
  unfold ow; rw [owM_step false c hh]; abel
theorem ow_credT (c : Dev nD) {i : ℕ} (h h' i' : ℕ) (hi : i < 13) : ow c h h' i i' = ow c h h' (i + 1) i' + tallyAt (cell (pv true c) (.cred true)) i 1 := by
  unfold ow; rw [owC_step true c hi]; abel
theorem ow_credF (c : Dev nD) {i' : ℕ} (h h' i : ℕ) (hi : i' < 13) : ow c h h' i i' = ow c h h' i (i' + 1) + tallyAt (cell (pv false c) (.cred false)) i' 1 := by
  unfold ow; rw [owC_step false c hi]; abel
theorem above_ow (c : Dev nD) {n h h' i i' : ℕ} (h1 : n < 2 * h + 2) (h2 : n < 2 * h' + 2) (h3 : n < 2 * i + 3) (h4 : n < 2 * i' + 3) : Above n (ow c h h' i i') := by
  unfold ow
  exact above_add (above_add (above_add (above_owM true c h1) (above_owM false c h2)) (above_owC true c h3)) (above_owC false c h4)

/-! ## The step -/

/-- What a stream holds while its step's transfer is under way. -/
def Mid (δ : Bool) (c : Dev nD) (h : ℕ) : sProp 𝕄 :=
  iprop(has δ (sl h) c fullShare.right (chunk m ρ δ (org δ h c)) ∗ cred (tallyAt (cell c (.send δ (sl h))) 0 N)
    ∗ cred (tallyAt (cell c (.recv δ (sl (h + 1)))) h N)
    ∗ (sp δ c h ∗ sp δ c (h + 1) ∗ sp δ c (h + 2)) ∗ (rp δ c h ∗ rp δ c (h + 1) ∗ rp δ c (h + 2)) ∗ bigSep (Finset.Ico (h + 1) 15) (mtok δ c))

/-- The transfer of a step. -/
theorem wp_stepSend (δ : Bool) (h : ℕ) (hh : h < 15) (c n : Dev nD) (hn : n = nx δ c) (O O' : CellTallies nD τ sig ℕ)
    (hO : O' = O + tallyAt (cell (nx δ c) (.recv δ (sl (h + 1)))) h N) (k : PP F) (Q : PUnit → sProp 𝕄) :
    iprop(recs m ρ κ ν ∗ Main m ρ δ c h ∗ Dst δ c h ∗ owing c O')
      ⊢ iprop(((Mid m ρ δ c h ∗ owing c O) -∗ wpc c k Q) -∗ wpc c (sendP δ (sl h) (sl (h + 1)) n k) Q) := by
  subst hO
  unfold Main Dst
  rw [show sp δ c h = (iprop(atPos ER (cell c (.send δ (sl h))) (h / 3) ∅ 0 ∗ reached ER (cell c (.send δ (sl h))) (h / 3)) : sProp 𝕄) from rfl]
  rw [bigSep_Ico_succ_bot hh]
  iintro ⟨#HR, ⟨Hs, ⟨⟨Ha, #Hr⟩, Hsp⟩, Hrp, ⟨Htok, Htoks⟩⟩, ⟨Hd, Hdr⟩, HO⟩ Hk
  icases (Entails.of_eq (show mtok δ c h = iprop(dutyTok ER (cell c (.send δ (sl h))) (h / 3) 0 ∗ dutyTok ER (cell (nx δ c) (.recv δ (sl (h + 1)))) (h / 3) 0
    ∗ cred (tallyAt (cell c (.recv δ (sl (h + 1)))) h N)) from rfl)) $$ Htok with ⟨Ht1, Ht2, Hc⟩
  iapply (wp_sendP m ρ κ ν δ h hh c n hn O k Q) $$ [Hs Hd Hdr HO Ht1 Ht2]
  · isplitr; · iexact HR
    isplitl [Hs]; · iexact Hs
    isplitl [Hd]; · iexact Hd
    isplitl [HO]; · iexact HO
    isplitl [Ht1]; · iexact Ht1
    isplitr; · iexact Hr
    isplitl [Ht2] <;> iassumption
  iintro ⟨Hs, HcS, HO⟩
  iapply Hk
  unfold Mid sp
  isplitl [Hs HcS Hc Ha Hsp Hrp Htoks]
  · isplitl [Hs]; · iexact Hs
    isplitl [HcS]; · iexact HcS
    isplitl [Hc]; · iexact Hc
    isplitl [Ha Hsp]
    · isplitl [Ha]
      · isplitl [Ha]; · iexact Ha
        iexact Hr
      iexact Hsp
    isplitl [Hrp] <;> iassumption
  iexact HO

/-- The two waits of a step. -/
theorem wp_stepWait (δ : Bool) (h : ℕ) (hh : h < 15) (c : Dev nD) (O : CellTallies nD τ sig ℕ) (hO : Above (2 * h + 2) O) (k : PP F) (Q : PUnit → sProp 𝕄) :
    iprop(recs m ρ κ ν ∗ Mid m ρ δ c h ∗ owing c O)
      ⊢ iprop(((Main m ρ δ c (h + 1) ∗ has δ (sl h) c fullShare (chunk m ρ δ (org δ h c)) ∗ owing c O) -∗ wpc c k Q)
          -∗ wpc c (waitP δ (sl h) (sl (h + 1)) k) Q) := by
  unfold Mid
  rw [show sp δ c h = (iprop(atPos ER (cell c (.send δ (sl h))) (h / 3) ∅ 0 ∗ reached ER (cell c (.send δ (sl h))) (h / 3)) : sProp 𝕄) from rfl,
    show rp δ c h = (iprop(atPos ER (cell c (.recv δ (sl (h + 1)))) (h / 3) ∅ 0 ∗ reached ER (cell c (.recv δ (sl (h + 1)))) (h / 3)) : sProp 𝕄) from rfl]
  iintro ⟨#HR, ⟨Hs, HcS, HcV, ⟨⟨Ha, -⟩, Hs1, Hs2⟩, ⟨⟨Hb, -⟩, Hr1, Hr2⟩, Htoks⟩, HO⟩ Hk
  iapply (wp_waitP m ρ κ ν δ h hh c O hO k Q) $$ [Hs HcS HcV HO Ha Hb]
  · isplitr; · iexact HR
    isplitl [Hs]; · iexact Hs
    isplitl [HcS]; · iexact HcS
    isplitl [HcV]; · iexact HcV
    isplitl [HO]; · iexact HO
    isplitl [Ha] <;> iassumption
  iintro ⟨Hs, Hn, HO, Hsp, Hrp⟩
  iapply Hk
  unfold Main
  isplitr [Hs HO]
  · isplitl [Hn]; · iexact Hn
    isplitl [Hsp Hs1 Hs2]
    · isplitl [Hs1]; · iexact Hs1
      isplitl [Hs2]; · iexact Hs2
      rw [show h + 1 + 2 = h + 3 from rfl, sp_next]; iexact Hsp
    isplitl [Hrp Hr1 Hr2]
    · isplitl [Hr1]; · iexact Hr1
      isplitl [Hr2]; · iexact Hr2
      rw [show h + 1 + 2 = h + 3 from rfl, rp_next]; iexact Hrp
    iexact Htoks
  isplitl [Hs] <;> iassumption

/-- The result's two blocks between the transfers' start and their end. -/
theorem wp_stepStore (δ : Bool) (h : ℕ) (c : Dev nD) (n n' : Bool → ℕ) (hn : ∀ δ', δ' ≠ δ → n' δ' ≤ n δ') (hδ : h ≤ n δ)
    (hδ' : n' δ ≤ h + 1) (o : Fin 2 → ℕ) (ho : ∀ a, o a + S256x256.size a ≤ S8192x256.size a) (hoff : o = ![ofs δ (org δ h c), 0])
    (k : PP F) (Q : PUnit → sProp 𝕄) :
    iprop(Mid m ρ δ c h ∗ wHeld m ρ c ∗ outHeld m ρ c n)
      ⊢ iprop(((Mid m ρ δ c h ∗ wHeld m ρ c ∗ outHeld m ρ c n') -∗ wpc c k Q) -∗ wpc c (storeP δ (sl h) o ho k) Q) := by
  unfold Mid
  iintro ⟨⟨Hs, Hrest⟩, Hw, Ho⟩ Hk
  iapply (wp_storeP m ρ δ h c fullShare.right n n' hn hδ hδ' o ho hoff k Q) $$ [Hs Hw Ho]
  · isplitl [Hs]; · iexact Hs
    isplitl [Hw] <;> iassumption
  iintro ⟨Hs, Hw, Ho⟩
  iapply Hk
  isplitl [Hs Hrest]
  · isplitl [Hs] <;> iassumption
  isplitl [Hw] <;> iassumption

/-- The blocks stored when step `h`'s first block is there. -/
def half (h : ℕ) : Bool → ℕ
  | true => h + 1
  | false => h

/-- The slots of step `h`, held after it. -/
def Old (c : Dev nD) (h : ℕ) : sProp 𝕄 :=
  iprop(has true (sl h) c fullShare (chunk m ρ true (org true h c)) ∗ has false (sl h) c fullShare (chunk m ρ false (org false h c)))

theorem wp_mainP (h : ℕ) (hh : h < 15) (c n₁ n₂ : Dev nD) (hn₁ : n₁ = nx true c) (hn₂ : n₂ = nx false c) (i : ℕ) (hi : h ≤ i ∨ 13 ≤ i)
    (hi' : i ≤ 13) (o₁ : Fin 2 → ℕ) (h₁ : ∀ a, o₁ a + S256x256.size a ≤ S8192x256.size a) (ho₁ : o₁ = ![ofs true (org true h c), 0])
    (o₂ : Fin 2 → ℕ) (h₂ : ∀ a, o₂ a + S256x256.size a ≤ S8192x256.size a) (ho₂ : o₂ = ![ofs false (org false h c), 0]) (k : PP F) (Q : PUnit → sProp 𝕄) :
    iprop(recs m ρ κ ν ∗ (Main m ρ true c h ∗ Main m ρ false c h) ∗ (Dst true c h ∗ Dst false c h) ∗ wHeld m ρ c ∗ outHeld m ρ c (fun _ => h)
        ∗ owing c (ow c h h i i))
      ⊢ iprop((((Main m ρ true c (h + 1) ∗ Main m ρ false c (h + 1)) ∗ Old m ρ c h ∗ wHeld m ρ c ∗ outHeld m ρ c (fun _ => h + 1)
            ∗ owing c (ow c (h + 1) (h + 1) i i)) -∗ wpc c k Q)
          -∗ wpc c (mainP (sl h) (sl (h + 1)) n₁ n₂ o₁ h₁ o₂ h₂ k) Q) := by
  have hA : Above (2 * h + 2) (ow c (h + 1) (h + 1) i i) := by
    rcases hi with hi | hi
    · exact above_ow c (by omega) (by omega) (by omega) (by omega)
    · have e : i = 13 := by omega
      subst e
      unfold ow owC
      rw [Finset.Ico_self, Finset.sum_empty, Finset.sum_empty, add_zero, add_zero]
      exact above_add (above_owM true c (by omega)) (above_owM false c (by omega))
  unfold mainP
  iintro ⟨#HR, ⟨HT, HF⟩, ⟨HdT, HdF⟩, Hw, Ho, HO⟩ Hk
  iapply (wp_stepSend m ρ κ ν true h hh c n₁ hn₁ _ _ (ow_sendT c h i i hh)) $$ [HT HdT HO]
  · isplitr; · iexact HR
    isplitl [HT]; · iexact HT
    isplitl [HdT] <;> iassumption
  iintro ⟨HT, HO⟩
  iapply (wp_stepSend m ρ κ ν false h hh c n₂ hn₂ _ _ (ow_sendF c (h + 1) i i hh)) $$ [HF HdF HO]
  · isplitr; · iexact HR
    isplitl [HF]; · iexact HF
    isplitl [HdF] <;> iassumption
  iintro ⟨HF, HO⟩
  iapply (wp_stepStore m ρ true h c (fun _ => h) (half h) (fun δ' hd => by cases δ'; exacts [le_refl h, absurd rfl hd]) (le_refl _) (le_refl _) o₁ h₁ ho₁) $$ [HT Hw Ho]
  · isplitl [HT]; · iexact HT
    isplitl [Hw] <;> iassumption
  iintro ⟨HT, Hw, Ho⟩
  iapply (wp_stepStore m ρ false h c (half h) (fun _ => h + 1) (fun δ' hd => by cases δ'; exacts [absurd rfl hd, le_refl (h + 1)]) (le_refl h) (le_refl _) o₂ h₂ ho₂) $$ [HF Hw Ho]
  · isplitl [HF]; · iexact HF
    isplitl [Hw] <;> iassumption
  iintro ⟨HF, Hw, Ho⟩
  iapply (wp_stepWait m ρ κ ν true h hh c _ hA) $$ [HT HO]
  · isplitr; · iexact HR
    isplitl [HT] <;> iassumption
  iintro ⟨HT, HsT, HO⟩
  iapply (wp_stepWait m ρ κ ν false h hh c _ hA) $$ [HF HO]
  · isplitr; · iexact HR
    isplitl [HF] <;> iassumption
  iintro ⟨HF, HsF, HO⟩
  iapply Hk
  isplitl [HT HF]
  · isplitl [HT] <;> iassumption
  isplitl [HsT HsF]
  · unfold Old; isplitl [HsT] <;> iassumption
  isplitl [Hw]; · iexact Hw
  isplitl [Ho] <;> iassumption

end Cert.RingGemm

end
-- ==== Proof.Round.lean ====
/-
The credits around a step, and the steps with their credits.
-/
module

public import proofs.«01_k».proof.Proof.Step

@[expose] public section

set_option maxRecDepth 20000

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)
variable (κ : Dev nD × Kind → ℕ) (ν : Key → ℕ)

/-- What a device knows after a step: its receive cell of the step's own slot has come to the round of the next write there. -/
theorem main_mark (δ : Bool) (c : Dev nD) (h : ℕ) :
    Main m ρ δ c (h + 1) ⊢ iprop(Main m ρ δ c (h + 1) ∗ reached ER (cell c (.recv δ (sl h))) ((h + 2) / 3)) := by
  unfold Main
  rw [show rp δ c (h + 1 + 1) = (iprop(atPos ER (cell c (.recv δ (sl (h + 3)))) ((h + 2) / 3) ∅ 0 ∗ reached ER (cell c (.recv δ (sl (h + 3)))) ((h + 2) / 3)) : sProp 𝕄) from rfl,
    sl_add]
  iintro ⟨Hs, Hsp, ⟨Hr0, ⟨Ha, #Hr⟩, Hr2⟩, Htoks⟩
  isplitl
  · isplitl [Hs]; · iexact Hs
    isplitl [Hsp]; · iexact Hsp
    isplitl [Hr0 Ha Hr2]
    · isplitl [Hr0]; · iexact Hr0
      isplitl [Ha]
      · isplitl [Ha]; · iexact Ha
        iexact Hr
      iexact Hr2
    iexact Htoks
  iexact Hr

/-- The credit given back after step `h`: the step's slot is released with it. -/
theorem wp_give (δ : Bool) (h : ℕ) (hh : h < 13) (c n : Dev nD) (hn : n = pv δ c) (ch : Vec F S1x256x8192 .bf16) (O O' : CellTallies nD τ sig ℕ)
    (hO : O' = O + tallyAt (cell (pv δ c) (.cred δ)) h 1) (k : PUnit → PP F) (Q : PUnit → sProp 𝕄) :
    iprop(recs m ρ κ ν ∗ Main m ρ δ c (h + 1) ∗ has δ (sl h) c fullShare ch ∗ Giv δ c h ∗ owing c O')
      ⊢ iprop(((Main m ρ δ c (h + 1) ∗ Giv δ c (h + 1) ∗ owing c O) -∗ wpc c (k ⟨⟩) Q)
          -∗ wpc c (.op (.semSignal (Dev.tc n : Thread nD τ) (credS δ) (1#32).toInt) k) Q) := by
  subst hO
  unfold Giv
  rw [bigSep_Ico_succ_bot hh]
  iintro ⟨#HR, HM, Hs, ⟨Hf, ⟨Hr0, Hr1, Hr2⟩, ⟨Ht, Htoks⟩⟩, HO⟩ Hk
  ihave HM' := (main_mark m ρ δ c h) $$ HM
  icases HM' with ⟨HM, #Hmark⟩
  iapply (wp_credit m ρ κ ν δ h hh c n hn O k Q) $$ [Hs Hr0 Hf HO Ht]
  · isplitr; · iexact HR
    isplitl [Hs]; · iapply (has_slotE δ (sl h) c ch); iexact Hs
    isplitl [Hr0]; · unfold rr; iexact Hr0
    isplitl [Hf]; · iexact Hf
    isplitr; · iexact Hmark
    isplitl [HO]; · iexact HO
    unfold stok; iexact Ht
  iintro ⟨Hr0, Hf, HO⟩
  iapply Hk
  isplitl [HM]; · iexact HM
  isplitr [HO]
  · isplitl [Hf]; · iexact Hf
    isplitr [Htoks]
    · isplitl [Hr1]; · iexact Hr1
      isplitl [Hr2]; · iexact Hr2
      rw [show h + 1 + 2 = h + 3 from rfl, rr_next]; iexact Hr0
    iexact Htoks
  iexact HO

/-- The credit waited for before step `j + 2`: the slot that step sends into comes with it. -/
theorem wp_take (δ : Bool) (j : ℕ) (hj : j < 13) (c : Dev nD) (O : CellTallies nD τ sig ℕ) (hO : Above (2 * j + 3) O) (k : PUnit → PP F) (Q : PUnit → sProp 𝕄) :
    iprop(recs m ρ κ ν ∗ Tak δ c j ∗ owing c O)
      ⊢ iprop(((Tak δ c (j + 1) ∗ Dst δ c (j + 2) ∗ owing c O) -∗ wpc c (k ⟨⟩) Q) -∗ wpc c (.op (.semWait (credS δ) (1#32).toInt) k) Q) := by
  unfold Tak Dst
  rw [bigSep_Ico_succ_bot hj, show j + 2 + 1 = j + 3 from rfl, sl_add]
  iintro ⟨#HR, ⟨Hc, ⟨Ht, Htoks⟩⟩, HO⟩ Hk
  icases (Entails.of_eq (show ctok (F := F) δ c j = iprop(cred (tallyAt (cell c (.cred δ)) j 1) ∗ writeTok ES (nx δ c, δ, sl j) (j / 3 + 1)) from rfl)) $$ Ht with ⟨Ht, Hw⟩
  iapply (wp_creditWait m ρ κ ν δ j hj c O hO k Q) $$ [Hc Ht HO]
  · isplitr; · iexact HR
    isplitl [Hc]; · iexact Hc
    isplitl [Ht] <;> iassumption
  iintro ⟨Hc, #Hf, HO⟩
  icases (Entails.of_eq (show fact (F := F) δ (nx δ c) j = iprop(released ES (nx δ c, δ, sl j) (j / 3 + 1) ∗ reached ER (cell (nx δ c) (.recv δ (sl j))) ((j + 2) / 3)) from rfl)) $$ Hf with ⟨#Hrel, #Hmark⟩
  imod (slot_take ES (k := ((nx δ c, δ, sl j) : Key)) (S := slotE δ (sl j) (nx δ c)) (Set.mem_univ (ν (nx δ c, δ, sl j))) (j / 3 + 1)) $$ [Hw] with Hd
  · isplitr; · iapply (recs_slot m ρ κ ν (nx δ c, δ, sl j)); iexact HR
    isplitr; · iexact Hrel
    iexact Hw
  iapply Hk
  isplitl [Hc Htoks]; · isplitl [Hc] <;> iassumption
  isplitl [Hd]
  · isplitl [Hd]; · iexact Hd
    iexact Hmark
  iexact HO

/-! ## Whole steps -/

/-- What a device holds before step `h ≤ 13`. -/
def At (c : Dev nD) (h : ℕ) : sProp 𝕄 :=
  iprop((Main m ρ true c h ∗ Main m ρ false c h) ∗ (Giv true c h ∗ Giv false c h) ∗ wHeld m ρ c ∗ outHeld m ρ c (fun _ => h) ∗ owing c (ow c h h h h))

/-- A step that gives its credits back. -/
theorem wp_step (h : ℕ) (hh : h < 13) (c n₁ n₂ n₃ n₄ : Dev nD) (hn₁ : n₁ = nx true c) (hn₂ : n₂ = nx false c) (hn₃ : n₃ = pv true c) (hn₄ : n₄ = pv false c)
    (o₁ : Fin 2 → ℕ) (h₁ : ∀ a, o₁ a + S256x256.size a ≤ S8192x256.size a) (ho₁ : o₁ = ![ofs true (org true h c), 0])
    (o₂ : Fin 2 → ℕ) (h₂ : ∀ a, o₂ a + S256x256.size a ≤ S8192x256.size a) (ho₂ : o₂ = ![ofs false (org false h c), 0]) (k : PP F) (Q : PUnit → sProp 𝕄) :
    iprop(recs m ρ κ ν ∗ (Dst true c h ∗ Dst false c h) ∗ At m ρ c h)
      ⊢ iprop((At m ρ c (h + 1) -∗ wpc c k Q) -∗ wpc c (mainP (sl h) (sl (h + 1)) n₁ n₂ o₁ h₁ o₂ h₂ (sigP n₃ n₄ k)) Q) := by
  unfold At
  iintro ⟨#HR, Hd, HM, ⟨HgT, HgF⟩, Hw, Ho, HO⟩ Hk
  iapply (wp_mainP m ρ κ ν h (by omega) c n₁ n₂ hn₁ hn₂ h (Or.inl (le_refl h)) (by omega) o₁ h₁ ho₁ o₂ h₂ ho₂ _ Q) $$ [Hd HM Hw Ho HO]
  · isplitr; · iexact HR
    isplitl [HM]; · iexact HM
    isplitl [Hd]; · iexact Hd
    isplitl [Hw]; · iexact Hw
    isplitl [Ho] <;> iassumption
  unfold Old sigP
  iintro ⟨⟨HMT, HMF⟩, ⟨HsT, HsF⟩, Hw, Ho, HO⟩
  iapply (wp_give m ρ κ ν true h hh c n₃ hn₃ _ _ _ (ow_credT c (h + 1) (h + 1) h hh)) $$ [HMT HsT HgT HO]
  · isplitr; · iexact HR
    isplitl [HMT]; · iexact HMT
    isplitl [HsT]; · iexact HsT
    isplitl [HgT] <;> iassumption
  iintro ⟨HMT, HgT, HO⟩
  iapply (wp_give m ρ κ ν false h hh c n₄ hn₄ _ _ _ (ow_credF c (h + 1) (h + 1) (h + 1) hh)) $$ [HMF HsF HgF HO]
  · isplitr; · iexact HR
    isplitl [HMF]; · iexact HMF
    isplitl [HsF]; · iexact HsF
    isplitl [HgF] <;> iassumption
  iintro ⟨HMF, HgF, HO⟩
  iapply Hk
  isplitl [HMT HMF]; · isplitl [HMT] <;> iassumption
  isplitl [HgT HgF]; · isplitl [HgT] <;> iassumption
  isplitl [Hw]; · iexact Hw
  isplitl [Ho] <;> iassumption

/-- The two credits waited for before step `j + 2`. -/
theorem wp_credP (j : ℕ) (hj : j < 13) (c : Dev nD) (O : CellTallies nD τ sig ℕ) (hO : Above (2 * j + 3) O) (k : PP F) (Q : PUnit → sProp 𝕄) :
    iprop(recs m ρ κ ν ∗ (Tak true c j ∗ Tak false c j) ∗ owing c O)
      ⊢ iprop((((Tak true c (j + 1) ∗ Tak false c (j + 1)) ∗ (Dst true c (j + 2) ∗ Dst false c (j + 2)) ∗ owing c O) -∗ wpc c k Q) -∗ wpc c (credP k) Q) := by
  unfold credP
  iintro ⟨#HR, ⟨HT, HF⟩, HO⟩ Hk
  iapply (wp_take m ρ κ ν true j hj c O hO) $$ [HT HO]
  · isplitr; · iexact HR
    isplitl [HT] <;> iassumption
  iintro ⟨HT, HdT, HO⟩
  iapply (wp_take m ρ κ ν false j hj c O hO) $$ [HF HO]
  · isplitr; · iexact HR
    isplitl [HF] <;> iassumption
  iintro ⟨HF, HdF, HO⟩
  iapply Hk
  isplitl [HT HF]; · isplitl [HT] <;> iassumption
  isplitl [HdT HdF]; · isplitl [HdT] <;> iassumption
  iexact HO

/-- A step that waits for its credits first and gives credits back. -/
theorem wp_credStep (j : ℕ) (hj : j < 11) (c n₁ n₂ n₃ n₄ : Dev nD) (hn₁ : n₁ = nx true c) (hn₂ : n₂ = nx false c) (hn₃ : n₃ = pv true c) (hn₄ : n₄ = pv false c)
    (o₁ : Fin 2 → ℕ) (h₁ : ∀ a, o₁ a + S256x256.size a ≤ S8192x256.size a) (ho₁ : o₁ = ![ofs true (org true (j + 2) c), 0])
    (o₂ : Fin 2 → ℕ) (h₂ : ∀ a, o₂ a + S256x256.size a ≤ S8192x256.size a) (ho₂ : o₂ = ![ofs false (org false (j + 2) c), 0]) (k : PP F) (Q : PUnit → sProp 𝕄) :
    iprop(recs m ρ κ ν ∗ (Tak true c j ∗ Tak false c j) ∗ At m ρ c (j + 2))
      ⊢ iprop((((Tak true c (j + 1) ∗ Tak false c (j + 1)) ∗ At m ρ c (j + 3)) -∗ wpc c k Q)
          -∗ wpc c (credP (mainP (sl (j + 2)) (sl (j + 3)) n₁ n₂ o₁ h₁ o₂ h₂ (sigP n₃ n₄ k))) Q) := by
  iintro ⟨#HR, Ht, HA⟩ Hk
  icases (Entails.of_eq (show At m ρ c (j + 2) = iprop((Main m ρ true c (j + 2) ∗ Main m ρ false c (j + 2)) ∗ (Giv true c (j + 2) ∗ Giv false c (j + 2)) ∗ wHeld m ρ c
    ∗ outHeld m ρ c (fun _ => j + 2) ∗ owing c (ow c (j + 2) (j + 2) (j + 2) (j + 2))) from rfl)) $$ HA with ⟨HM, Hg, Hw, Ho, HO⟩
  iapply (wp_credP m ρ κ ν j (by omega) c (ow c (j + 2) (j + 2) (j + 2) (j + 2)) (above_ow c (by omega) (by omega) (by omega) (by omega))) $$ [Ht HO]
  · isplitr; · iexact HR
    isplitl [Ht] <;> iassumption
  iintro ⟨Ht, Hd, HO⟩
  iapply (wp_step m ρ κ ν (j + 2) (by omega) c n₁ n₂ n₃ n₄ hn₁ hn₂ hn₃ hn₄ o₁ h₁ ho₁ o₂ h₂ ho₂ k Q) $$ [HM Hg Hw Ho HO Hd]
  · isplitr; · iexact HR
    isplitl [Hd]; · iexact Hd
    unfold At
    isplitl [HM]; · iexact HM
    isplitl [Hg]; · iexact Hg
    isplitl [Hw]; · iexact Hw
    isplitl [Ho] <;> iassumption
  iintro HA
  iapply Hk
  isplitl [Ht] <;> iassumption

/-- What a device holds before step `h ≥ 13`, all its credits given back. -/
def Late (c : Dev nD) (h : ℕ) : sProp 𝕄 :=
  iprop((Main m ρ true c h ∗ Main m ρ false c h) ∗ wHeld m ρ c ∗ outHeld m ρ c (fun _ => h) ∗ owing c (ow c h h 13 13))

/-- The last two steps: their slots stay with the device. -/
theorem wp_lateStep (j : ℕ) (hj : j = 11 ∨ j = 12) (c n₁ n₂ : Dev nD) (hn₁ : n₁ = nx true c) (hn₂ : n₂ = nx false c)
    (o₁ : Fin 2 → ℕ) (h₁ : ∀ a, o₁ a + S256x256.size a ≤ S8192x256.size a) (ho₁ : o₁ = ![ofs true (org true (j + 2) c), 0])
    (o₂ : Fin 2 → ℕ) (h₂ : ∀ a, o₂ a + S256x256.size a ≤ S8192x256.size a) (ho₂ : o₂ = ![ofs false (org false (j + 2) c), 0]) (k : PP F) (Q : PUnit → sProp 𝕄) :
    iprop(recs m ρ κ ν ∗ (Tak true c j ∗ Tak false c j) ∗ Late m ρ c (j + 2))
      ⊢ iprop((((Tak true c (j + 1) ∗ Tak false c (j + 1)) ∗ Old m ρ c (j + 2) ∗ Late m ρ c (j + 3)) -∗ wpc c k Q)
          -∗ wpc c (credP (mainP (sl (j + 2)) (sl (j + 3)) n₁ n₂ o₁ h₁ o₂ h₂ k)) Q) := by
  unfold Late
  iintro ⟨#HR, Ht, HM, Hw, Ho, HO⟩ Hk
  iapply (wp_credP m ρ κ ν j (by omega) c (ow c (j + 2) (j + 2) 13 13) (above_ow c (by omega) (by omega) (by omega) (by omega))) $$ [Ht HO]
  · isplitr; · iexact HR
    isplitl [Ht] <;> iassumption
  iintro ⟨Ht, Hd, HO⟩
  iapply (wp_mainP m ρ κ ν (j + 2) (by omega) c n₁ n₂ hn₁ hn₂ 13 (Or.inr (le_refl 13)) (le_refl 13) o₁ h₁ ho₁ o₂ h₂ ho₂ k Q) $$ [HM Hw Ho HO Hd]
  · isplitr; · iexact HR
    isplitl [HM]; · iexact HM
    isplitl [Hd]; · iexact Hd
    isplitl [Hw]; · iexact Hw
    isplitl [Ho] <;> iassumption
  iintro ⟨HM, Hs, Hw, Ho, HO⟩
  iapply Hk
  isplitl [Ht]; · iexact Ht
  isplitl [Hs]; · iexact Hs
  isplitl [HM]; · iexact HM
  isplitl [Hw]; · iexact Hw
  isplitl [Ho] <;> iassumption

end Cert.RingGemm

end
-- ==== Proof.Start.lean ====
/-
The start of the body: the device's own rows put into the two comm buffers, and the handshake with both neighbours.
-/
module

public import proofs.«01_k».proof.Proof.Round
public import Idealize.ShloMosaic.Lib.Ring

@[expose] public section

set_option maxRecDepth 20000

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)
variable (κ : Dev nD × Kind → ℕ) (ν : Key → ℕ)

/-! ## A comm buffer is its three slots -/

theorem rS_disjoint (t t' : Fin 3) (h : t ≠ t') : Disjoint (rS t).set (rS t').set := by
  refine Rect.unit_disjoint (0 : Fin 3) ?_
  have := Fin.val_ne_of_ne h
  show t.val + 1 ≤ t'.val ∨ t'.val + 1 ≤ t.val
  omega
theorem rS_cover (i : S3x256x8192.Idx) : ∃ t : Fin 3, i ∈ (rS t).set := by
  refine ⟨⟨(i 0).val, (i 0).isLt⟩, Rect.mem_set_unit.mpr fun a => ?_⟩
  match a with
  | ⟨0, _⟩ => exact ⟨le_refl (i 0).val, Nat.lt_succ_self (i 0).val⟩
  | ⟨1, _⟩ => exact ⟨Nat.zero_le _, (Nat.zero_add 256).symm ▸ (i 1).isLt⟩
  | ⟨2, _⟩ => exact ⟨Nat.zero_le _, (Nat.zero_add 8192).symm ▸ (i 2).isLt⟩

theorem slots_disjoint (δ : Bool) (t t' : Fin 3) (h : t ≠ t') : Disjoint (slotV δ t).set (slotV δ t').set := by
  rw [View.set_slice, View.set_slice, Finset.disjoint_map]; exact rS_disjoint t t' h
abbrev slotI (c : Dev nD) (δ : Bool) (t : Fin 3) : Finset (Idx (cloc δ c)) := (slotV δ t).set
theorem slots_cover (c : Dev nD) : ∀ (δ : Bool), Finset.univ.biUnion (slotI c δ) = Finset.univ
  | true => Finset.eq_univ_iff_forall.mpr fun i => by
    obtain ⟨t, ht⟩ := rS_cover i
    exact Finset.mem_biUnion.mpr ⟨t, Finset.mem_univ t, (Finset.ext_iff.mp (View.set_slice_whole cc0_scratch0 (rS t)) i).mpr ht⟩
  | false => Finset.eq_univ_iff_forall.mpr fun i => by
    obtain ⟨t, ht⟩ := rS_cover i
    exact Finset.mem_biUnion.mpr ⟨t, Finset.mem_univ t, (Finset.ext_iff.mp (View.set_slice_whole cc0_scratch1 (rS t)) i).mpr ht⟩

/-- The comm buffer of stream `δ` on `c`, at whatever contents. -/
def comm (δ : Bool) (c : Dev nD) : sProp 𝕄 := iprop(∃ f : Buf (Elt F) (cloc δ c), cloc δ c ↦{fullShare} f)

theorem comm_split (δ : Bool) (c : Dev nD) : comm δ c ⊢ (iprop(slotE δ 0 c ∗ slotE δ 1 c ∗ slotE δ 2 c) : sProp 𝕄) :=
  Ring.slots3_split (ℓ := cloc δ c) (slotI c δ) (slots_disjoint δ) (slots_cover c δ) _ _ _ (fun _ => rfl) (fun _ => rfl) (fun _ => rfl)
theorem comm_join (δ : Bool) (c : Dev nD) : iprop(slotE δ 0 c ∗ slotE δ 1 c ∗ slotE δ 2 c) ⊢ (comm δ c : sProp 𝕄) :=
  Ring.slots3_join (ℓ := cloc δ c) (slotI c δ) (slots_disjoint δ) (slots_cover c δ) _ _ _ (fun _ => rfl) (fun _ => rfl) (fun _ => rfl)

/-! ## The start -/

theorem slot_write (δ : Bool) (t : Fin 3) : ((commM δ).access (rS t)).setOn Finset.univ ⊆ (slotV δ t).set := by
  rw [View.setOn_univ]

/-- A device's own rows put into slot 0. -/
theorem wp_fill (δ : Bool) (c : Dev nD) (v : Vec F S1x256x8192 .bf16) (hl) (hx) (hm) (k : PUnit → PP F) (Q : PUnit → sProp 𝕄) :
    slotE δ 0 c ⊢ iprop((has δ 0 c fullShare v -∗ wpc c (k ⟨⟩) Q)
      -∗ wpc c (.op (.load (commM δ) (rS 0).toLoadRect hl) fun _ => .op (.store (commM δ) (rS 0) v Finset.univ hx hm) k) Q) := by
  unfold slotE slot has
  iintro ⟨%f, Hs⟩ Hk
  iapply (wp_load 𝒱₀ (c : Thread nD τ) none Set.univ (m := commM δ) (slot_setOn δ 0)) $$ Hs; iintro Hs
  iapply (wp_store 𝒱₀ (c : Thread nD τ) none Set.univ (m := commM δ) (r := rS 0) (Mk := Finset.univ) (slot_write δ 0)) $$ Hs; iintro Hs
  iapply Hk
  iexists _
  isplitr [Hs]; · (ipureintro; exact View.read_write_univ (v := slotV δ 0) f v)
  iexact Hs

def xHeld (c : Dev nD) : sProp 𝕄 := ((c : Thread nD τ).loc cc0_stg0_0) ↦{fullShare} (xstg m ρ c)

/-- All that a device owes at launch. -/
def owAll (c : Dev nD) : CellTallies nD τ sig ℕ := ow c 0 0 0 0 + tallyAt (cell (pv false c) .bar) 0 1 + tallyAt (cell (pv true c) .bar) 0 1

theorem mem_bar (δ : Bool) (c : Dev nD) : bd δ ∈ (rd (F := F) m ρ).duties (cell c .bar) 0 := by
  rw [duties_cell]; show bd δ ∈ ({0, 1} : Finset ℕ); cases δ <;> decide
theorem pay_bar (δ : Bool) (c : Dev nD) : (rd (F := F) m ρ).payload (cell (pv δ c) .bar) 0 (bd δ) = iprop(slotE δ 1 c ∗ slotE δ 2 c) := by
  rw [payload_cell]
  show barPay (bd δ == 1) (pv δ c) = _
  rw [show (bd δ == 1) = δ by cases δ <;> rfl]
  unfold barPay; rw [nx_pv]
theorem rest_bar (c : Dev nD) :
    (bigSep ((rd (F := F) m ρ).duties (cell c .bar) 0 \ ∅) fun d => (rd (F := F) m ρ).payload (cell c .bar) 0 d) = iprop(barPay false c ∗ barPay true c) := by
  rw [Finset.sdiff_empty, duties_cell]
  show bigSep (insert 0 {1} : Finset ℕ) _ = _
  rw [bigSep_insert (by decide), bigSep_singleton, payload_cell, payload_cell]; rfl
theorem expect_bar (c : Dev nD) : (rd (F := F) m ρ).expect (cell c .bar) 0 = 2 := by rw [expect_cell]; rfl

/-- One signal of the handshake. -/
theorem wp_hail (δ : Bool) (c n : Dev nD) (hn : n = pv δ c) (O : CellTallies nD τ sig ℕ) (k : PUnit → PP F) (Q : PUnit → sProp 𝕄) :
    iprop(recs m ρ κ ν ∗ slotE δ 1 c ∗ slotE δ 2 c ∗ owing c (O + tallyAt (cell (pv δ c) .bar) 0 1) ∗ dutyTok ER (cell (pv δ c) .bar) 0 (bd δ))
      ⊢ iprop((owing c O -∗ wpc c (k ⟨⟩) Q) -∗ wpc c (.op (.semSignal (Dev.tc n : Thread nD τ) barS (1#32).toInt) k) Q) := by
  subst hn
  have hp : (iprop(slotE δ 1 c ∗ slotE δ 2 c) : sProp 𝕄) ⊢ (rd (F := F) m ρ).payload (((pv δ c : Dev nD) : Thread nD τ), SemLoc.reg barS) 0 (bd δ) :=
    Entails.of_eq (pay_bar m ρ δ c).symm
  unfold owing
  iintro ⟨#HR, H1, H2, ⟨%W, HO⟩, Ht⟩ Hk
  iapply (Rounds.wp_signal 𝒱₀ ER (rd m ρ) (c : Thread nD τ) none (dst := (pv δ c : Thread nD τ)) (κ := κ (pv δ c, .bar))
      (r := 0) (d := bd δ) (mem_bar m ρ δ (pv δ c)) ((amount_cell m ρ (pv δ c) .bar 0 (bd δ)).trans rfl) 0 O rfl) $$ [HO Ht H1 H2]
  · isplitr; · iapply (recs_cell m ρ κ ν (pv δ c) .bar); iexact HR
    isplitl [HO]; · iexact HO
    isplitl [Ht]; · iexact Ht
    isplitl [H1 H2]
    · iapply hp; isplitl [H1] <;> iassumption
    iapply (recs_reached m ρ κ ν (pv δ c) .bar); iexact HR
  iintro HO
  iapply Hk
  iexists W; iexact HO

theorem above_ow0 (c : Dev nD) : Above 1 (ow c 0 0 0 0) := above_ow c (by omega) (by omega) (by omega) (by omega)

/-- The handshake's wait: it brings the slots of the two neighbours that the first two steps send into. -/
theorem wp_met (c : Dev nD) (O : CellTallies nD τ sig ℕ) (hO : Above 1 O) (k : PUnit → PP F) (Q : PUnit → sProp 𝕄) :
    iprop(recs m ρ κ ν ∗ cred (tallyAt (cell c .bar) 0 2) ∗ owing c O ∗ atPos ER (cell c .bar) 0 ∅ 0)
      ⊢ iprop(((barPay false c ∗ barPay true c) ∗ owing c O ∗ atPos ER (cell c .bar) 1 ∅ 0 -∗ wpc c (k ⟨⟩) Q)
          -∗ wpc c (.op (.semWait barS (2#32).toInt) k) Q) := by
  unfold owing
  iintro ⟨#HR, Hc, ⟨%W, HO⟩, Ha⟩ Hk
  iapply (Rounds.wp_wait_rest_token 𝒱₀ ER (rd m ρ) (c : Thread nD τ) none (κ := κ (c, .bar)) (sm := csem .bar) (k' := 2)
      (wpE_semWait_eq 𝒱₀ (c : Thread nD τ) none Set.univ) (Set.mem_univ _) 0 (O := O) (W := W) (R := 0) (m := 0) (T := ∅)
      (by rw [expect_bar])) $$ [Hc HO Ha]
  · isplitr; · iapply (recs_cell m ρ κ ν c .bar); iexact HR
    isplitl [Hc]; · iexact Hc
    isplitl [HO]; · iexact HO
    isplitr; · iapply (recs_mayWait m ρ κ ν c .bar 0 (by omega) O hO); iexact HR
    iexact Ha
  iintro ⟨HO, Ha, -, Hp⟩
  ihave Hp' := (Entails.of_eq (rest_bar m ρ c)) $$ Hp
  iapply Hk
  isplitl [Hp']; · iexact Hp'
  isplitl [HO]; · iexists _; iexact HO
  iexact Ha

theorem sl_nums : sl 0 = 0 ∧ sl 1 = 1 ∧ sl 2 = 2 := by unfold sl; exact ⟨rfl, rfl, rfl⟩

/-- The slots that the handshake brings are where the first two steps send. -/
theorem dst_first (δ : Bool) (c : Dev nD) : iprop(recs m ρ κ ν ∗ barPay δ c) ⊢ (iprop(Dst δ c 0 ∗ Dst δ c 1) : sProp 𝕄) := by
  have e1 : sl (0 + 1) = 1 := sl_nums.2.1
  have e2 : sl (1 + 1) = 2 := sl_nums.2.2
  unfold barPay Dst
  rw [e1, e2]
  iintro ⟨#HR, H1, H2⟩
  isplitl [H1]
  · isplitl [H1]; · iexact H1
    iapply (recs_reached m ρ κ ν (nx δ c) (.recv δ 1)); iexact HR
  isplitl [H2]; · iexact H2
  iapply (recs_reached m ρ κ ν (nx δ c) (.recv δ 2)); iexact HR

theorem wp_startP (c n₁ n₂ : Dev nD) (hn₁ : n₁ = pv true c) (hn₂ : n₂ = pv false c) (k : PP F) (Q : PUnit → sProp 𝕄) :
    iprop(recs m ρ κ ν ∗ xHeld m ρ c ∗ (comm true c ∗ comm false c) ∗ owing c (owAll c)
        ∗ (dutyTok ER (cell (pv true c) .bar) 0 (bd true) ∗ dutyTok ER (cell (pv false c) .bar) 0 (bd false))
        ∗ cred (tallyAt (cell c .bar) 0 2) ∗ atPos ER (cell c .bar) 0 ∅ 0)
      ⊢ iprop(((xHeld m ρ c ∗ (has true (sl 0) c fullShare (chunk m ρ true (org true 0 c)) ∗ has false (sl 0) c fullShare (chunk m ρ false (org false 0 c)))
            ∗ (Dst true c 0 ∗ Dst false c 0) ∗ (Dst true c 1 ∗ Dst false c 1) ∗ owing c (ow c 0 0 0 0) ∗ atPos ER (cell c .bar) 1 ∅ 0) -∗ wpc c k Q)
          -∗ wpc c (startP n₁ n₂ k) Q) := by
  unfold startP xHeld owAll
  rw [sl_nums.1]
  iintro ⟨#HR, Hx, ⟨HcT, HcF⟩, HO, ⟨HtT, HtF⟩, Hc, Ha⟩ Hk
  icases (comm_split true c) $$ HcT with ⟨HT0, HT1, HT2⟩
  icases (comm_split false c) $$ HcF with ⟨HF0, HF1, HF2⟩
  iapply (wp_load 𝒱₀ (c : Thread nD τ) none Set.univ (m := xM) (Finset.subset_univ _)) $$ Hx; iintro Hx
  iapply (wp_fill true c) $$ HT0; iintro HT0
  iapply (wp_load 𝒱₀ (c : Thread nD τ) none Set.univ (m := xM) (Finset.subset_univ _)) $$ Hx; iintro Hx
  iapply (wp_fill false c) $$ HF0; iintro HF0
  iapply (wp_hail m ρ κ ν true c n₁ hn₁ (ow c 0 0 0 0 + tallyAt (cell (pv false c) .bar) 0 1)) $$ [HT1 HT2 HO HtT]
  · isplitr; · iexact HR
    isplitl [HT1]; · iexact HT1
    isplitl [HT2]; · iexact HT2
    isplitl [HO] <;> iassumption
  iintro HO
  iapply (wp_hail m ρ κ ν false c n₂ hn₂ (ow c 0 0 0 0)) $$ [HF1 HF2 HO HtF]
  · isplitr; · iexact HR
    isplitl [HF1]; · iexact HF1
    isplitl [HF2]; · iexact HF2
    isplitl [HO] <;> iassumption
  iintro HO
  iapply (wp_met m ρ κ ν c _ (above_ow0 c)) $$ [Hc HO Ha]
  · isplitr; · iexact HR
    isplitl [Hc]; · iexact Hc
    isplitl [HO] <;> iassumption
  iintro ⟨⟨HpF, HpT⟩, HO, Ha⟩
  icases (dst_first m ρ κ ν true c) $$ [HpT] with ⟨HT1, HT2⟩
  · isplitr; · iexact HR
    iexact HpT
  icases (dst_first m ρ κ ν false c) $$ [HpF] with ⟨HF1, HF2⟩
  · isplitr; · iexact HR
    iexact HpF
  iapply Hk
  isplitl [Hx]; · iexact Hx
  isplitl [HT0 HF0]
  · isplitl [HT0]; · iexact HT0
    iexact HF0
  isplitl [HT1 HF1]; · isplitl [HT1] <;> iassumption
  isplitl [HT2 HF2]; · isplitl [HT2] <;> iassumption
  isplitl [HO] <;> iassumption

end Cert.RingGemm

end
-- ==== Proof.Chain.lean ====
/-
The body as a chain of rounds: the devices that it names are the two neighbours, its offsets those of the blocks.
-/
module

public import proofs.«01_k».proof.Proof.Start

@[expose] public section

set_option maxRecDepth 20000

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)
variable (κ : Dev nD × Kind → ℕ) (ν : Key → ℕ)

/-- The devices that the body names, in order: those that are the right neighbour, those that are the left one. -/
def rightTab (d : Dev nD) : List (Dev nD) :=
  [⟨k0_dev2 d, k0_dev2_lt d⟩, ⟨k0_dev3 d, k0_dev3_lt d⟩, ⟨k0_dev6 d, k0_dev6_lt d⟩, ⟨k0_dev7 d, k0_dev7_lt d⟩,
   ⟨k0_dev10 d, k0_dev10_lt d⟩, ⟨k0_dev11 d, k0_dev11_lt d⟩, ⟨k0_dev14 d, k0_dev14_lt d⟩, ⟨k0_dev15 d, k0_dev15_lt d⟩,
   ⟨k0_dev18 d, k0_dev18_lt d⟩, ⟨k0_dev19 d, k0_dev19_lt d⟩, ⟨k0_dev22 d, k0_dev22_lt d⟩, ⟨k0_dev23 d, k0_dev23_lt d⟩,
   ⟨k0_dev26 d, k0_dev26_lt d⟩, ⟨k0_dev27 d, k0_dev27_lt d⟩, ⟨k0_dev30 d, k0_dev30_lt d⟩, ⟨k0_dev31 d, k0_dev31_lt d⟩,
   ⟨k0_dev34 d, k0_dev34_lt d⟩, ⟨k0_dev35 d, k0_dev35_lt d⟩, ⟨k0_dev38 d, k0_dev38_lt d⟩, ⟨k0_dev39 d, k0_dev39_lt d⟩,
   ⟨k0_dev42 d, k0_dev42_lt d⟩, ⟨k0_dev43 d, k0_dev43_lt d⟩, ⟨k0_dev46 d, k0_dev46_lt d⟩, ⟨k0_dev47 d, k0_dev47_lt d⟩,
   ⟨k0_dev50 d, k0_dev50_lt d⟩, ⟨k0_dev51 d, k0_dev51_lt d⟩, ⟨k0_dev54 d, k0_dev54_lt d⟩, ⟨k0_dev55 d, k0_dev55_lt d⟩,
   ⟨k0_dev57 d, k0_dev57_lt d⟩]
def leftTab (d : Dev nD) : List (Dev nD) :=
  [⟨k0_dev1 d, k0_dev1_lt d⟩, ⟨k0_dev4 d, k0_dev4_lt d⟩, ⟨k0_dev5 d, k0_dev5_lt d⟩, ⟨k0_dev8 d, k0_dev8_lt d⟩,
   ⟨k0_dev9 d, k0_dev9_lt d⟩, ⟨k0_dev12 d, k0_dev12_lt d⟩, ⟨k0_dev13 d, k0_dev13_lt d⟩, ⟨k0_dev16 d, k0_dev16_lt d⟩,
   ⟨k0_dev17 d, k0_dev17_lt d⟩, ⟨k0_dev20 d, k0_dev20_lt d⟩, ⟨k0_dev21 d, k0_dev21_lt d⟩, ⟨k0_dev24 d, k0_dev24_lt d⟩,
   ⟨k0_dev25 d, k0_dev25_lt d⟩, ⟨k0_dev28 d, k0_dev28_lt d⟩, ⟨k0_dev29 d, k0_dev29_lt d⟩, ⟨k0_dev32 d, k0_dev32_lt d⟩,
   ⟨k0_dev33 d, k0_dev33_lt d⟩, ⟨k0_dev36 d, k0_dev36_lt d⟩, ⟨k0_dev37 d, k0_dev37_lt d⟩, ⟨k0_dev40 d, k0_dev40_lt d⟩,
   ⟨k0_dev41 d, k0_dev41_lt d⟩, ⟨k0_dev44 d, k0_dev44_lt d⟩, ⟨k0_dev45 d, k0_dev45_lt d⟩, ⟨k0_dev48 d, k0_dev48_lt d⟩,
   ⟨k0_dev49 d, k0_dev49_lt d⟩, ⟨k0_dev52 d, k0_dev52_lt d⟩, ⟨k0_dev53 d, k0_dev53_lt d⟩, ⟨k0_dev56 d, k0_dev56_lt d⟩,
   ⟨k0_dev58 d, k0_dev58_lt d⟩]
def rDev (d : Dev nD) (i : ℕ) : Dev nD := (rightTab d).getD i 0
def lDev (d : Dev nD) (i : ℕ) : Dev nD := (leftTab d).getD i 0

theorem rDev_eq (d : Dev nD) (i : ℕ) (hi : i < 29) : rDev d i = right d :=
  (by decide +kernel : ∀ (d : Dev nD) (i : Fin 29), rDev d i.val = right d) d ⟨i, hi⟩
theorem lDev_eq (d : Dev nD) (i : ℕ) (hi : i < 29) : lDev d i = left d :=
  (by decide +kernel : ∀ (d : Dev nD) (i : Fin 29), lDev d i.val = left d) d ⟨i, hi⟩

/-- The offsets of the blocks stored in step `h`. -/
theorem off_right (d : Dev nD) (h : Fin 16) (hh : h.val < 15) :
    k0_off1 d (k0_off1_at h).1 (k0_off1_at h).2 = ![ofs true (org true h.val d), 0] := by
  have key : ∀ (d : Dev nD) (h : Fin 16), h.val < 15 → ∀ a, k0_off1 d (k0_off1_at h).1 (k0_off1_at h).2 a = ![ofs true (org true h.val d), 0] a := by decide +kernel
  exact funext (key d h hh)
theorem off_left (d : Dev nD) (h : Fin 16) (hh : h.val < 15) :
    k0_off2 d (k0_off2_at h).1 (k0_off2_at h).2 = ![ofs false (org false h.val d), 0] := by
  have key : ∀ (d : Dev nD) (h : Fin 16), h.val < 15 → ∀ a, k0_off2 d (k0_off2_at h).1 (k0_off2_at h).2 a = ![ofs false (org false h.val d), 0] a := by decide +kernel
  exact funext (key d h hh)
theorem off_right_last (d : Dev nD) : k0_off2 d (k0_off2_at 15).1 (k0_off2_at 15).2 = ![ofs true (org true 15 d), 0] := by
  have key : ∀ (d : Dev nD), ∀ a, k0_off2 d (k0_off2_at 15).1 (k0_off2_at 15).2 a = ![ofs true (org true 15 d), 0] a := by decide +kernel
  exact funext (key d)
theorem off_left_last (d : Dev nD) : k0_off1 d (k0_off1_at 15).1 (k0_off1_at 15).2 = ![ofs false (org false 15 d), 0] := by
  have key : ∀ (d : Dev nD), ∀ a, k0_off1 d (k0_off1_at 15).1 (k0_off1_at 15).2 a = ![ofs false (org false 15 d), 0] a := by decide +kernel
  exact funext (key d)

/-- Step `h`'s transfers and blocks; its credits given back after it. -/
def coreP (d : Dev nD) (h : Fin 16) (k : PP F) : PP F :=
  mainP (sl h.val) (sl (h.val + 1)) (rDev d (2 * h.val + 1)) (lDev d (2 * h.val + 1)) _ (k0_off1_inb d h) _ (k0_off2_inb d h) k
def backP (d : Dev nD) (h : ℕ) (k : PP F) : PP F := sigP (lDev d (2 * h + 2)) (rDev d (2 * h + 2)) k
def coreLateP (d : Dev nD) (h : Fin 16) (k : PP F) : PP F :=
  mainP (sl h.val) (sl (h.val + 1)) (rDev d (h.val + 14)) (lDev d (h.val + 14)) _ (k0_off1_inb d h) _ (k0_off2_inb d h) k

/-- `n` rounds from step `j + 2` on. -/
def roundsP (d : Dev nD) : (n j : ℕ) → (n + j ≤ 11) → PP F → PP F
  | 0, _, _, k => k
  | n + 1, j, hj, k => credP (coreP d ⟨j + 2, by omega⟩ (backP d (j + 2) (roundsP d n (j + 1) (by omega) k)))

set_option maxHeartbeats 4000000 in
/-- The body is the start, two steps, eleven rounds, the two last steps and the last two blocks. -/
theorem bodyP_eq (d : Dev nD) : bodyP (F := F) d = (startP (lDev d 0) (rDev d 0) <| coreP d 0 <| backP d 0 <| coreP d 1 <| backP d 1 <|
    roundsP d 11 0 (le_refl 11) <| credP <| coreLateP d 13 <| credP <| coreLateP d 14 <|
    storeP true (sl 15) _ (k0_off2_inb d 15) <| storeP false (sl 15) _ (k0_off1_inb d 15) <| .ret ⟨⟩) := rfl

end Cert.RingGemm

end
-- ==== Proof.Body.lean ====
/-
The whole body of a device: from what the launch deals it to its columns of the result, every semaphore of its own at zero.
-/
module

public import proofs.«01_k».proof.Proof.Chain

@[expose] public section

set_option maxRecDepth 20000

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)
variable (κ : Dev nD × Kind → ℕ) (ν : Key → ℕ)

/-! ## What the body starts from and ends in -/

/-- A stream's positions and tokens at launch. -/
def Str (δ : Bool) (c : Dev nD) : sProp 𝕄 :=
  iprop(((sp δ c 0 ∗ sp δ c (0 + 1) ∗ sp δ c (0 + 2)) ∗ (rp δ c 0 ∗ rp δ c (0 + 1) ∗ rp δ c (0 + 2)) ∗ bigSep (Finset.Ico 0 15) (mtok δ c))
    ∗ ((rr δ c 0 ∗ rr δ c (0 + 1) ∗ rr δ c (0 + 2)) ∗ bigSep (Finset.Ico 0 13) (stok δ c))
    ∗ (atPos ER (cell c (.cred δ)) 0 ∅ 0 ∗ bigSep (Finset.Ico 0 13) (ctok δ c)))
/-- The handshake's position and tokens. -/
def Bar (c : Dev nD) : sProp 𝕄 :=
  iprop((dutyTok ER (cell (pv true c) .bar) 0 (bd true) ∗ dutyTok ER (cell (pv false c) .bar) 0 (bd false))
    ∗ cred (tallyAt (cell c .bar) 0 2) ∗ atPos ER (cell c .bar) 0 ∅ 0)

def bodyIn (c : Dev nD) : sProp 𝕄 :=
  iprop(xHeld m ρ c ∗ wHeld m ρ c ∗ outHeld m ρ c (fun _ => 0) ∗ (comm true c ∗ comm false c) ∗ owing c (owAll c) ∗ Bar c ∗ (Str true c ∗ Str false c))

/-- A stream's semaphores at zero. -/
def Zero (δ : Bool) (c : Dev nD) : sProp 𝕄 :=
  iprop(semVal (cell c (.cred δ)) 0 ∗ (semVal (cell c (.send δ 0)) 0 ∗ semVal (cell c (.send δ 1)) 0 ∗ semVal (cell c (.send δ 2)) 0)
    ∗ (semVal (cell c (.recv δ 0)) 0 ∗ semVal (cell c (.recv δ 1)) 0 ∗ semVal (cell c (.recv δ 2)) 0))
def bodyOut (c : Dev nD) : sProp 𝕄 :=
  iprop(xHeld m ρ c ∗ wHeld m ρ c ∗ (((c : Thread nD τ).loc cc0_stg2_0) ↦{fullShare} (outV m ρ c)) ∗ (comm true c ∗ comm false c) ∗ owing c 0
    ∗ semVal (cell c .bar) 0 ∗ (Zero true c ∗ Zero false c))

/-! ## The cells closed -/

theorem close_cell (c : Dev nD) (k : Kind) (R : ℕ) (hR : lastR k ≤ R) :
    iprop(recs m ρ κ ν ∗ atPos ER (cell c k) R ∅ 0) ⊢ (|={Set.univ}=> semVal (cell c k) 0 : sProp 𝕄) := by
  iintro ⟨#HR, Ha⟩
  imod (Rounds.cell_close ER (rd m ρ) (Set.mem_univ (κ (c, k))) (fun h => h) (R := R) (fun r hr => duties_later m ρ c k r (le_trans hR hr))) $$ [Ha] with Hz
  · isplitr; · iapply (recs_cell m ρ κ ν c k); iexact HR
    iexact Ha
  imodintro; iexact Hz

theorem close_send (δ : Bool) (c : Dev nD) (j : ℕ) (hj : 15 ≤ j) (t : Fin 3) (ht : sl j = t) :
    iprop(recs m ρ κ ν ∗ sp δ c j) ⊢ (|={Set.univ}=> semVal (cell c (.send δ t)) 0 : sProp 𝕄) := by
  subst ht
  unfold sp
  iintro ⟨#HR, Ha, -⟩
  iapply (close_cell m ρ κ ν c (.send δ (sl j)) (j / 3) (by show 5 ≤ j / 3; omega))
  isplitr; · iexact HR
  iexact Ha
theorem close_recv (δ : Bool) (c : Dev nD) (j : ℕ) (hj : 15 ≤ j) (t : Fin 3) (ht : sl (j + 1) = t) :
    iprop(recs m ρ κ ν ∗ rp δ c j) ⊢ (|={Set.univ}=> semVal (cell c (.recv δ t)) 0 : sProp 𝕄) := by
  subst ht
  unfold rp
  iintro ⟨#HR, Ha, -⟩
  iapply (close_cell m ρ κ ν c (.recv δ (sl (j + 1))) (j / 3) (by show 5 ≤ j / 3; omega))
  isplitr; · iexact HR
  iexact Ha
theorem close_cred (δ : Bool) (c : Dev nD) : iprop(recs m ρ κ ν ∗ credAt δ c 13) ⊢ (|={Set.univ}=> semVal (cell c (.cred δ)) 0 : sProp 𝕄) := by
  unfold credAt
  iintro ⟨#HR, ⟨%S, %hS, Ha, -⟩⟩
  have hS' : (rd (F := F) m ρ).duties (cell c (.cred δ)) 0 ⊆ S := by
    rw [duties_cell]
    show Finset.range 13 ⊆ S
    rw [Finset.eq_of_subset_of_card_le hS.2 (by rw [Finset.card_range]; exact hS.1)]
  imod (Rounds.fupd_skip ER (rd m ρ) (κ := κ (c, .cred δ)) hS' (expect_cred m ρ c δ).symm (Set.mem_univ _)) $$ [Ha] with ⟨Ha, -⟩
  · isplitr; · iapply (recs_cell m ρ κ ν c (.cred δ)); iexact HR
    iexact Ha
  iapply (close_cell m ρ κ ν c (.cred δ) (0 + 1) (le_refl 1))
  isplitr; · iexact HR
  iexact Ha

theorem sl_ends : sl 13 = 1 ∧ sl 14 = 2 ∧ sl 15 = 0 ∧ sl 16 = 1 ∧ sl 17 = 2 ∧ sl 18 = 0 := by unfold sl; exact ⟨rfl, rfl, rfl, rfl, rfl, rfl⟩

/-- After its last step a stream's semaphores are at zero, and its last slot is the device's. -/
theorem close_stream (δ : Bool) (c : Dev nD) :
    iprop(recs m ρ κ ν ∗ Main m ρ δ c 15 ∗ Tak δ c 13) ⊢ (|={Set.univ}=> iprop(slotE δ 0 c ∗ Zero δ c) : sProp 𝕄) := by
  unfold Main Tak
  rw [sl_ends.2.2.1]
  iintro ⟨#HR, ⟨Hs, ⟨Hs0, Hs1, Hs2⟩, ⟨Hr0, Hr1, Hr2⟩, -⟩, ⟨Hc, -⟩⟩
  imod (close_send m ρ κ ν δ c 15 (by omega) 0 sl_ends.2.2.1) $$ [Hs0] with Hs0
  · isplitr; · iexact HR
    iexact Hs0
  imod (close_send m ρ κ ν δ c (15 + 1) (by omega) 1 sl_ends.2.2.2.1) $$ [Hs1] with Hs1
  · isplitr; · iexact HR
    iexact Hs1
  imod (close_send m ρ κ ν δ c (15 + 2) (by omega) 2 sl_ends.2.2.2.2.1) $$ [Hs2] with Hs2
  · isplitr; · iexact HR
    iexact Hs2
  imod (close_recv m ρ κ ν δ c 15 (by omega) 1 sl_ends.2.2.2.1) $$ [Hr0] with Hr0
  · isplitr; · iexact HR
    iexact Hr0
  imod (close_recv m ρ κ ν δ c (15 + 1) (by omega) 2 sl_ends.2.2.2.2.1) $$ [Hr1] with Hr1
  · isplitr; · iexact HR
    iexact Hr1
  imod (close_recv m ρ κ ν δ c (15 + 2) (by omega) 0 sl_ends.2.2.2.2.2) $$ [Hr2] with Hr2
  · isplitr; · iexact HR
    iexact Hr2
  imod (close_cred m ρ κ ν δ c) $$ [Hc] with Hc
  · isplitr; · iexact HR
    iexact Hc
  imodintro
  isplitl [Hs]; · iapply (has_slotE δ 0 c _); iexact Hs
  unfold Zero
  isplitl [Hc]; · iexact Hc
  isplitl [Hs0 Hs1 Hs2]
  · isplitl [Hs0]; · iexact Hs0
    isplitl [Hs1] <;> iassumption
  isplitl [Hr2]; · iexact Hr2
  isplitl [Hr0] <;> iassumption

/-! ## The rounds -/

/-- A step with its credits, as the body has it. -/
theorem wp_coreBack (h : Fin 16) (hh : h.val < 13) (c : Dev nD) (k : PP F) (Q : PUnit → sProp 𝕄) :
    iprop(recs m ρ κ ν ∗ (Dst true c h.val ∗ Dst false c h.val) ∗ At m ρ c h.val)
      ⊢ iprop((At m ρ c (h.val + 1) -∗ wpc c k Q) -∗ wpc c (coreP c h (backP c h.val k)) Q) :=
  wp_step m ρ κ ν h.val hh c _ _ _ _ (rDev_eq c _ (by omega)) (lDev_eq c _ (by omega)) (lDev_eq c _ (by omega)) (rDev_eq c _ (by omega))
    _ _ (off_right c h (by omega)) _ _ (off_left c h (by omega)) k Q

theorem wp_rounds (c : Dev nD) (Q : PUnit → sProp 𝕄) (k : PP F) : ∀ (n j : ℕ) (hj : n + j ≤ 11),
    iprop(recs m ρ κ ν ∗ (Tak true c j ∗ Tak false c j) ∗ At m ρ c (j + 2))
      ⊢ iprop((((Tak true c (j + n) ∗ Tak false c (j + n)) ∗ At m ρ c (j + n + 2)) -∗ wpc c k Q) -∗ wpc c (roundsP c n j hj k) Q)
  | 0, j, hj => by
    unfold roundsP
    iintro ⟨-, H⟩ Hk
    iapply Hk; iexact H
  | n + 1, j, hj => by
    have ih := wp_rounds c Q k n (j + 1) (by omega)
    rw [show j + 1 + n = j + (n + 1) by omega] at ih
    unfold roundsP
    iintro ⟨#HR, Ht, HA⟩ Hk
    iapply (wp_credStep m ρ κ ν j (by omega) c _ _ _ _ (rDev_eq c (2 * (j + 2) + 1) (by omega)) (lDev_eq c (2 * (j + 2) + 1) (by omega))
      (lDev_eq c (2 * (j + 2) + 2) (by omega)) (rDev_eq c (2 * (j + 2) + 2) (by omega))
      _ (k0_off1_inb c ⟨j + 2, by omega⟩) (off_right c ⟨j + 2, by omega⟩ (by show j + 2 < 15; omega))
      _ (k0_off2_inb c ⟨j + 2, by omega⟩) (off_left c ⟨j + 2, by omega⟩ (by show j + 2 < 15; omega)) _ Q) $$ [Ht HA]
    · isplitr; · iexact HR
      isplitl [Ht] <;> iassumption
    iintro H
    iapply ih $$ [H]
    · isplitr; · iexact HR
      iexact H
    iexact Hk

/-- The two last blocks. -/
theorem wp_lastStores (c : Dev nD) (Q : PUnit → sProp 𝕄) :
    iprop((Main m ρ true c 15 ∗ Main m ρ false c 15) ∗ wHeld m ρ c ∗ outHeld m ρ c (fun _ => 15))
      ⊢ iprop((((Main m ρ true c 15 ∗ Main m ρ false c 15) ∗ wHeld m ρ c ∗ outHeld m ρ c (fun _ => 16)) -∗ |={Set.univ}=> Q ⟨⟩)
          -∗ wpc c (storeP true (sl 15) _ (k0_off2_inb c 15) <| storeP false (sl 15) _ (k0_off1_inb c 15) <| .ret ⟨⟩) Q) := by
  unfold Main
  iintro ⟨⟨⟨HsT, HT⟩, ⟨HsF, HF⟩⟩, Hw, Ho⟩ Hk
  iapply (wp_storeP m ρ true 15 c fullShare (fun _ => 15) (half 15) (fun δ' hd => by cases δ'; exacts [le_refl 15, absurd rfl hd]) (le_refl _) (le_refl _)
    _ (k0_off2_inb c 15) (off_right_last c)) $$ [HsT Hw Ho]
  · isplitl [HsT]; · iexact HsT
    isplitl [Hw] <;> iassumption
  iintro ⟨HsT, Hw, Ho⟩
  iapply (wp_storeP m ρ false 15 c fullShare (half 15) (fun _ => 16) (fun δ' hd => by cases δ'; exacts [absurd rfl hd, le_refl 16]) (le_refl 15) (le_refl _)
    _ (k0_off1_inb c 15) (off_left_last c)) $$ [HsF Hw Ho]
  · isplitl [HsF]; · iexact HsF
    isplitl [Hw] <;> iassumption
  iintro ⟨HsF, Hw, Ho⟩
  unfold wpc; rw [wp_ret]
  iapply Hk
  isplitl [HsT HT HsF HF]
  · isplitl [HsT HT]
    · isplitl [HsT] <;> iassumption
    isplitl [HsF] <;> iassumption
  isplitl [Hw] <;> iassumption

/-! ## The whole body -/

theorem ow_end (c : Dev nD) : ow c 15 15 13 13 = 0 := by
  unfold ow owM owC
  simp only [Finset.Ico_self, Finset.sum_empty, add_zero]

theorem credAt_start (δ : Bool) (c : Dev nD) : atPos ER (cell c (.cred δ)) 0 ∅ 0 ⊢ (credAt δ c 0 : sProp 𝕄) := by
  unfold credAt
  iintro H
  iexists ∅
  isplitr; · ipureintro; exact ⟨le_refl 0, Finset.empty_subset _⟩
  isplitl; · iexact H
  rw [bigSep_empty]; iempintro

/-- A stream before its first step. -/
theorem stream_start (δ : Bool) (c : Dev nD) :
    iprop(has δ (sl 0) c fullShare (chunk m ρ δ (org δ 0 c)) ∗ Str δ c) ⊢ iprop(Main m ρ δ c 0 ∗ Giv δ c 0 ∗ Tak δ c 0) := by
  unfold Str Main Giv Tak facts
  rw [Finset.range_zero, bigSep_empty]
  iintro ⟨Hs, HM, HG, ⟨Hc, HT⟩⟩
  isplitl [Hs HM]
  · isplitl [Hs] <;> iassumption
  isplitl [HG]
  · isplitr; · iempintro
    iexact HG
  isplitl [Hc]; · iapply (credAt_start δ c); iexact Hc
  iexact HT

/-- The last two steps and the last two blocks. -/
theorem wp_tail (c : Dev nD) (Q : PUnit → sProp 𝕄) :
    iprop(recs m ρ κ ν ∗ (Tak true c 11 ∗ Tak false c 11) ∗ At m ρ c 13)
      ⊢ iprop((((Main m ρ true c 15 ∗ Main m ρ false c 15) ∗ (Tak true c 13 ∗ Tak false c 13) ∗ (Old m ρ c 13 ∗ Old m ρ c 14)
              ∗ wHeld m ρ c ∗ outHeld m ρ c (fun _ => 16) ∗ owing c 0) -∗ |={Set.univ}=> Q ⟨⟩)
          -∗ wpc c (credP <| coreLateP c 13 <| credP <| coreLateP c 14 <| storeP true (sl 15) _ (k0_off2_inb c 15)
              <| storeP false (sl 15) _ (k0_off1_inb c 15) <| .ret ⟨⟩) Q) := by
  unfold At
  iintro ⟨#HR, HT, HM, -, Hw, Ho, HO⟩ Hk
  iapply (wp_lateStep m ρ κ ν 11 (Or.inl rfl) c _ _ (rDev_eq c (13 + 14) (by omega)) (lDev_eq c (13 + 14) (by omega))
    _ (k0_off1_inb c 13) (off_right c 13 (by decide)) _ (k0_off2_inb c 13) (off_left c 13 (by decide))) $$ [HT HM Hw Ho HO]
  · isplitr; · iexact HR
    isplitl [HT]; · iexact HT
    unfold Late
    isplitl [HM]; · iexact HM
    isplitl [Hw]; · iexact Hw
    isplitl [Ho] <;> iassumption
  iintro ⟨HT, HOld, HL⟩
  iapply (wp_lateStep m ρ κ ν 12 (Or.inr rfl) c _ _ (rDev_eq c (14 + 14) (by omega)) (lDev_eq c (14 + 14) (by omega))
    _ (k0_off1_inb c 14) (off_right c 14 (by decide)) _ (k0_off2_inb c 14) (off_left c 14 (by decide))) $$ [HT HL]
  · isplitr; · iexact HR
    isplitl [HT] <;> iassumption
  iintro ⟨HT, HOld', HL⟩
  unfold Late
  icases HL with ⟨HM, Hw, Ho, HO⟩
  iapply (wp_lastStores m ρ c Q) $$ [HM Hw Ho]
  · isplitl [HM]; · iexact HM
    isplitl [Hw] <;> iassumption
  iintro ⟨HM, Hw, Ho⟩
  iapply Hk
  isplitl [HM]; · iexact HM
  isplitl [HT]; · iexact HT
  isplitl [HOld HOld']
  · isplitl [HOld] <;> iassumption
  isplitl [Hw]; · iexact Hw
  isplitl [Ho]; · iexact Ho
  rw [show (12 : ℕ) + 3 = 15 from rfl, ow_end]; iexact HO

theorem wp_body (c : Dev nD) (Q : PUnit → sProp 𝕄) :
    iprop(recs m ρ κ ν ∗ bodyIn m ρ c) ⊢ iprop((bodyOut m ρ c -∗ |={Set.univ}=> Q ⟨⟩) -∗ wpc c (bodyP (F := F) c) Q) := by
  rw [bodyP_eq]
  unfold bodyIn Bar
  iintro ⟨#HR, Hx, Hw, Ho, Hcm, HO, ⟨Htk, Hcr, Hat⟩, HsT, HsF⟩ Hk
  iapply (wp_startP m ρ κ ν c _ _ (lDev_eq c 0 (by omega)) (rDev_eq c 0 (by omega))) $$ [Hx Hcm HO Htk Hcr Hat]
  · isplitr; · iexact HR
    isplitl [Hx]; · iexact Hx
    isplitl [Hcm]; · iexact Hcm
    isplitl [HO]; · iexact HO
    isplitl [Htk]; · iexact Htk
    isplitl [Hcr] <;> iassumption
  iintro ⟨Hx, ⟨HhT, HhF⟩, HD0, HD1, HO, Hbar⟩
  ihave HT := (stream_start m ρ true c) $$ [HhT HsT]
  · isplitl [HhT] <;> iassumption
  ihave HF := (stream_start m ρ false c) $$ [HhF HsF]
  · isplitl [HhF] <;> iassumption
  icases HT with ⟨HMT, HGT, HTT⟩
  icases HF with ⟨HMF, HGF, HTF⟩
  iapply (wp_coreBack m ρ κ ν 0 (by decide) c) $$ [HD0 HMT HMF HGT HGF Hw Ho HO]
  · isplitr; · iexact HR
    isplitl [HD0]; · iexact HD0
    unfold At
    isplitl [HMT HMF]
    · isplitl [HMT]; · iexact HMT
      iexact HMF
    isplitl [HGT HGF]
    · isplitl [HGT]; · iexact HGT
      iexact HGF
    isplitl [Hw]; · iexact Hw
    isplitl [Ho]; · iexact Ho
    iexact HO
  iintro HA
  iapply (wp_coreBack m ρ κ ν 1 (by decide) c) $$ [HD1 HA]
  · isplitr; · iexact HR
    isplitl [HD1]; · iexact HD1
    iexact HA
  iintro HA
  iapply (wp_rounds m ρ κ ν c Q _ 11 0 (le_refl 11)) $$ [HTT HTF HA]
  · isplitr; · iexact HR
    isplitl [HTT HTF]
    · isplitl [HTT] <;> iassumption
    iexact HA
  iintro ⟨HT, HA⟩
  iapply (wp_tail m ρ κ ν c Q) $$ [HT HA]
  · isplitr; · iexact HR
    isplitl [HT] <;> iassumption
  iintro ⟨⟨HMT, HMF⟩, ⟨HTT, HTF⟩, ⟨HO13, HO14⟩, Hw, Ho, HO⟩
  imod (close_stream m ρ κ ν true c) $$ [HMT HTT] with ⟨HT0, HZT⟩
  · isplitr; · iexact HR
    isplitl [HMT] <;> iassumption
  imod (close_stream m ρ κ ν false c) $$ [HMF HTF] with ⟨HF0, HZF⟩
  · isplitr; · iexact HR
    isplitl [HMF] <;> iassumption
  imod (close_cell m ρ κ ν c .bar 1 (le_refl 1)) $$ [Hbar] with HZB
  · isplitr; · iexact HR
    iexact Hbar
  unfold Old
  rw [sl_ends.1, sl_ends.2.1]
  icases HO13 with ⟨HT1, HF1⟩
  icases HO14 with ⟨HT2, HF2⟩
  iapply Hk
  unfold bodyOut outHeld
  isplitl [Hx]; · iexact Hx
  isplitl [Hw]; · iexact Hw
  isplitl [Ho]
  · icases Ho with ⟨%f, %hf, Ho⟩
    rw [good_all m ρ c _ (fun _ => rfl) f hf]; iexact Ho
  isplitl [HT0 HT1 HT2 HF0 HF1 HF2]
  · isplitl [HT0 HT1 HT2]
    · iapply (comm_join true c)
      isplitl [HT0]; · iexact HT0
      isplitl [HT1]; · iapply (has_slotE true 1 c _); iexact HT1
      iapply (has_slotE true 2 c _); iexact HT2
    · iapply (comm_join false c)
      isplitl [HF0]; · iexact HF0
      isplitl [HF1]; · iapply (has_slotE false 1 c _); iexact HF1
      iapply (has_slotE false 2 c _); iexact HF2
  isplitl [HO]; · iexact HO
  isplitl [HZB]; · iexact HZB
  isplitl [HZT] <;> iassumption

end Cert.RingGemm

end
-- ==== Proof.Deal.lean ====
/-
The launch: the ghost state dealt to the devices, the credits, and the body as the pipeline library wants it.
-/
module

public import proofs.«01_k».proof.Proof.Body

@[expose] public section

set_option maxRecDepth 20000

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

/-! ## The kinds, one by one -/

/-- Stream `δ`'s kinds. -/
def KS (δ : Bool) (Φ : Kind → sProp 𝕄) : sProp 𝕄 :=
  iprop(Φ (.cred δ) ∗ (Φ (.send δ 0) ∗ Φ (.send δ 1) ∗ Φ (.send δ 2)) ∗ (Φ (.recv δ 0) ∗ Φ (.recv δ 1) ∗ Φ (.recv δ 2)))

theorem kinds_eq (Φ : Kind → sProp 𝕄) : bigSep Finset.univ Φ = iprop(Φ .bar ∗ KS true Φ ∗ KS false Φ) := by
  have hassoc : ∀ P Q R : sProp 𝕄, iprop((P ∗ Q) ∗ R) = iprop(P ∗ Q ∗ R) := fun P Q R =>
    BI.Entails.antisymm (show _ ⊢ (_ : sProp 𝕄) from Laws.sep_assoc.1) (show _ ⊢ (_ : sProp 𝕄) from Laws.sep_assoc.2)
  rw [bigSep_univ_eq_bigSepL [Kind.bar, .cred true, .send true 0, .send true 1, .send true 2, .recv true 0, .recv true 1, .recv true 2,
    .cred false, .send false 0, .send false 1, .send false 2, .recv false 0, .recv false 1, .recv false 2] (by decide) (by decide) Φ]
  unfold KS
  simp only [hassoc]
  rfl

theorem bigSep_fin (n : ℕ) (Φ : ℕ → sProp 𝕄) : (bigSep Finset.univ fun j : Fin n => Φ j.val) = bigSep (Finset.Ico 0 n) Φ := by
  rw [show Finset.Ico 0 n = (Finset.univ : Finset (Fin n)).map Fin.valEmbedding from by
    rw [Fin.map_valEmbedding_univ]; ext x; simp, bigSep_map]
  rfl

/-! ## The tokens, by the device that pays with them -/

abbrev Jx : Type := Fin 1 ⊕ Fin 15 ⊕ Fin 15 ⊕ Fin 13

def tDev (δ : Bool) (c : Dev nD) : Jx → Dev nD
  | .inl _ => pv δ c
  | .inr (.inl _) => c
  | .inr (.inr (.inl _)) => nx δ c
  | .inr (.inr (.inr _)) => pv δ c
def tKind (δ : Bool) : Jx → Kind
  | .inl _ => .bar
  | .inr (.inl j) => .send δ (sl j.val)
  | .inr (.inr (.inl j)) => .recv δ (sl (j.val + 1))
  | .inr (.inr (.inr _)) => .cred δ
def tRound : Jx → ℕ
  | .inl _ => 0
  | .inr (.inl j) => j.val / 3
  | .inr (.inr (.inl j)) => j.val / 3
  | .inr (.inr (.inr _)) => 0
def tDuty (δ : Bool) : Jx → ℕ
  | .inl _ => bd δ
  | .inr (.inl _) => 0
  | .inr (.inr (.inl _)) => 0
  | .inr (.inr (.inr i)) => i.val
def tokOf (x : Dev nD × Bool × Jx) : GSem nD τ sig × ℕ × ℕ := (cell (tDev x.2.1 x.1 x.2.2) (tKind x.2.1 x.2.2), tRound x.2.2, tDuty x.2.1 x.2.2)

theorem nx_inj (δ : Bool) : Function.Injective (nx δ) := (ring δ).injective
theorem pv_inj (δ : Bool) : Function.Injective (pv δ) := (ring δ).symm.injective
theorem bd_inj : Function.Injective bd := by decide
theorem sl_eq {a b : ℕ} (h : sl a = sl b) : a % 3 = b % 3 := by
  unfold sl at h; exact congrArg Fin.val h

theorem tokOf_inj : Function.Injective tokOf := by
  rintro ⟨c, δ, j⟩ ⟨c', δ', j'⟩ h
  have hc : tDev δ c j = tDev δ' c' j' ∧ tKind δ j = tKind δ' j' := by
    have := cell_inj (a₁ := (tDev δ c j, tKind δ j)) (a₂ := (tDev δ' c' j', tKind δ' j')) (congrArg Prod.fst h)
    exact ⟨congrArg Prod.fst this, congrArg Prod.snd this⟩
  have hr : tRound j = tRound j' := congrArg (fun x => x.2.1) h
  have hd : tDuty δ j = tDuty δ' j' := congrArg (fun x => x.2.2) h
  obtain ⟨hD, hK⟩ := hc
  rcases j with j | j | j | j <;> rcases j' with j' | j' | j' | j' <;> simp only [tDev, tKind, tRound, tDuty, Kind.send.injEq, Kind.recv.injEq, Kind.cred.injEq, reduceCtorEq] at hD hK hr hd
  · have e := bd_inj hd; subst e; rw [pv_inj δ hD, Subsingleton.elim j j']
  · obtain ⟨e, hs⟩ := hK; subst e; have := sl_eq hs; rw [hD, show j = j' from Fin.ext (by omega)]
  · obtain ⟨e, hs⟩ := hK; subst e; have := sl_eq hs; rw [nx_inj δ hD, show j = j' from Fin.ext (by omega)]
  · subst hK; rw [pv_inj δ hD, show j = j' from Fin.ext hd]

def allToks : Finset (GSem nD τ sig × ℕ × ℕ) := Finset.univ.map ⟨tokOf, tokOf_inj⟩
def allCells : Finset (GSem nD τ sig) := Finset.univ.map ⟨fun ck : Dev nD × Kind => cell ck.1 ck.2, cell_inj⟩

/-- The right to write into stream `δ`'s slots on the next device. -/
def wrOf (x : Dev nD × Bool × Fin 13) : Key × ℕ := ((nx x.2.1 x.1, x.2.1, sl x.2.2.val), x.2.2.val / 3)
theorem wrOf_inj : Function.Injective wrOf := by
  rintro ⟨c, δ, i⟩ ⟨c', δ', i'⟩ h
  have e : δ = δ' := congrArg (fun x : Key × ℕ => x.1.2.1) h
  subst e
  have h1 : nx δ c = nx δ c' := congrArg (fun x : Key × ℕ => x.1.1) h
  have h2 : i.val % 3 = i'.val % 3 := sl_eq (congrArg (fun x : Key × ℕ => x.1.2.2) h)
  have h3 : i.val / 3 = i'.val / 3 := congrArg (fun x : Key × ℕ => x.2) h
  rw [nx_inj δ h1, show i = i' from Fin.ext (by omega)]

def u₀ : UU :=
  (initOf (Pipeline.cells cfgs cellOf_inj) (Pipeline.launchToks cfgs cellOf_inj), (initOf allCells allToks, initSlots Finset.univ 5))

/-! ## What a device is dealt -/

def dtok (δ : Bool) (c : Dev nD) (j : Jx) : sProp 𝕄 := dutyTok ER (cell (tDev δ c j) (tKind δ j)) (tRound j) (tDuty δ j)
def wtok (δ : Bool) (c : Dev nD) (i : ℕ) : sProp 𝕄 := writeTok ES (nx δ c, δ, sl i) (i / 3 + 1)
/-- Stream `δ`'s tokens and counts. -/
def Deal (δ : Bool) (c : Dev nD) : sProp 𝕄 :=
  iprop((bigSep Finset.univ (dtok δ c)) ∗ (bigSep Finset.univ fun t : Fin 3 => readerAt ES (c, δ, t) 0) ∗ (bigSep Finset.univ fun i : Fin 13 => wtok δ c i.val))
/-- The slots' invariants, known to all. -/
def slotsInv : sProp 𝕄 := iprop(∃ ν : Key → ℕ, bigSep Finset.univ fun k : Key => slotInv ES (ν k) k (slotE k.2.1 k.2.2 k.1))
instance slotsInv_persistent : BI.Persistent (slotsInv (F := F)) := by unfold slotsInv; infer_instance

def G (c : Dev nD) : sProp 𝕄 :=
  iprop((bigSep Finset.univ fun k : Kind => roundState ER (rd m ρ) (cell c k) 0)
    ∗ (bigSep Finset.univ fun k : Kind => atPos ER (cell c k) 0 ∅ 0) ∗ (bigSep Finset.univ fun k : Kind => reached ER (cell c k) 0)
    ∗ (bigSep Finset.univ fun δ : Bool => Deal δ c) ∗ slotsInv)

theorem fund_rounds : BI.own (ER (initOf allCells allToks))
    ⊢ (|==> iprop((bigSep Finset.univ fun c : Dev nD => bigSep Finset.univ fun k : Kind => roundState ER (rd m ρ) (cell c k) 0)
      ∗ (bigSep Finset.univ fun c : Dev nD => bigSep Finset.univ fun k : Kind => atPos ER (cell c k) 0 ∅ 0)
      ∗ (bigSep Finset.univ fun c : Dev nD => bigSep Finset.univ fun k : Kind => reached ER (cell c k) 0)
      ∗ (bigSep Finset.univ fun c : Dev nD => bigSep Finset.univ fun δ : Bool => bigSep Finset.univ (dtok δ c))) : sProp 𝕄) := by
  have hX (Φ : GSem nD τ sig → sProp 𝕄) : bigSep allCells Φ = bigSep Finset.univ fun c : Dev nD => bigSep Finset.univ fun k : Kind => Φ (cell c k) := by
    unfold allCells; rw [bigSep_map, bigSep_univ_prod]; rfl
  have hT : bigSep allToks (fun x => (dutyTok ER x.1 x.2.1 x.2.2 : sProp 𝕄))
      = bigSep Finset.univ fun c : Dev nD => bigSep Finset.univ fun δ : Bool => bigSep Finset.univ (dtok δ c) := by
    unfold allToks; rw [bigSep_map, bigSep_univ_prod]
    exact bigSep_congr fun c _ => by rw [bigSep_univ_prod]; rfl
  iintro HX
  imod (Rounds.fund ER (rd m ρ) allCells allToks) $$ HX with ⟨Hst, Hr, Hat, Htok⟩
  imodintro
  isplitl [Hst]; · iapply (Entails.of_eq (hX fun g => roundState ER (rd m ρ) g 0)); iexact Hst
  isplitl [Hat]; · iapply (Entails.of_eq (hX fun g => atPos ER g 0 ∅ 0)); iexact Hat
  isplitl [Hr]; · iapply (Entails.of_eq (hX fun g => reached ER g 0)); iexact Hr
  iapply (Entails.of_eq hT); iexact Htok

theorem fund_slots : BI.own (ES (initSlots Finset.univ 5))
    ⊢ (|={Set.univ}=> iprop((bigSep Finset.univ fun c : Dev nD => slotsInv)
      ∗ (bigSep Finset.univ fun c : Dev nD => bigSep Finset.univ fun δ : Bool => bigSep Finset.univ fun t : Fin 3 => readerAt ES (c, δ, t) 0)
      ∗ (bigSep Finset.univ fun c : Dev nD => bigSep Finset.univ fun δ : Bool => bigSep Finset.univ fun i : Fin 13 => wtok δ c i.val)) : sProp 𝕄) := by
  iintro HX
  imod (slots_init (Es := Set.univ) ES Finset.univ 5 (fun k : Key => slotE k.2.1 k.2.2 k.1)) $$ HX with ⟨%ν, -, HI, HR, HW⟩
  imodintro
  isplitl [HI]
  · iapply (BI.bigSep_of_persistent Finset.univ (slotsInv (F := F)))
    unfold slotsInv; iexists ν; iexact HI
  isplitl [HR]
  · iapply (Entails.of_eq (show (bigSep Finset.univ fun k : Key => (readerAt ES k 0 : sProp 𝕄)) = _ from by
      rw [bigSep_univ_prod]; exact bigSep_congr fun c _ => by rw [bigSep_univ_prod]))
    iexact HR
  · have hsub : (Finset.univ.map ⟨wrOf, wrOf_inj⟩ : Finset (Key × ℕ)) ⊆ Finset.univ ×ˢ Finset.range 5 := by
      intro x hx
      obtain ⟨⟨c, δ, i⟩, -, rfl⟩ := Finset.mem_map.mp hx
      exact Finset.mem_product.mpr ⟨Finset.mem_univ _, Finset.mem_range.mpr (by show i.val / 3 < 5; omega)⟩
    have hW : (bigSep (Finset.univ.map ⟨wrOf, wrOf_inj⟩) fun x : Key × ℕ => (writeTok ES x.1 (x.2 + 1) : sProp 𝕄))
        = bigSep Finset.univ fun c : Dev nD => bigSep Finset.univ fun δ : Bool => bigSep Finset.univ fun i : Fin 13 => wtok δ c i.val := by
      rw [bigSep_map, bigSep_univ_prod]; exact bigSep_congr fun c _ => by rw [bigSep_univ_prod]; rfl
    iapply (Entails.of_eq hW)
    iapply (show (bigSep (Finset.univ ×ˢ Finset.range 5) fun x : Key × ℕ => (writeTok ES x.1 (x.2 + 1) : sProp 𝕄))
      ⊢ bigSep (Finset.univ.map ⟨wrOf, wrOf_inj⟩) fun x : Key × ℕ => (writeTok ES x.1 (x.2 + 1) : sProp 𝕄) from bigSep_subset hsub)
    iexact HW

theorem fund : (ownU u₀ : sProp 𝕄)
    ⊢ |={Set.univ}=> iprop(BI.own (EP (initOf (Pipeline.cells cfgs cellOf_inj) (Pipeline.launchToks cfgs cellOf_inj))) ∗ bigSep Finset.univ (G m ρ)) := by
  unfold u₀
  iintro Hu
  ihave H := (ownU_pair _ _) $$ Hu
  icases H with ⟨HP, HX⟩
  ihave H := (own_pair_emb EX (initOf allCells allToks) (initSlots Finset.univ 5)) $$ HX
  icases H with ⟨HR, HS⟩
  imod (fund_rounds m ρ) $$ HR with ⟨Hst, Hat, Hr, Htk⟩
  imod (fund_slots (F := F)) $$ HS with ⟨HI, Hrd, Hwr⟩
  imodintro
  isplitl [HP]; · iexact HP
  unfold G Deal
  simp only [bigSep_sep']
  isplitl [Hst]; · iexact Hst
  isplitl [Hat]; · iexact Hat
  isplitl [Hr]; · iexact Hr
  isplitl [Htk Hrd Hwr]
  · isplitl [Htk]; · iexact Htk
    isplitl [Hrd] <;> iassumption
  iexact HI

end Cert.RingGemm

end
-- ==== Proof.Launch.lean ====
/-
The run: every device started from its deal, its body run, the launch theorem applied.
-/
module

public import proofs.«01_k».proof.Proof.Deal

@[expose] public section

set_option maxRecDepth 20000

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The semaphores -/

/-- The kernel's own semaphores, as the launch theorem indexes them: all kinds but the barrier. -/
def okind : Fin 14 → Kind
  | 0 => .cred true | 1 => .cred false
  | 2 => .send true 0 | 3 => .send true 1 | 4 => .send true 2
  | 5 => .send false 0 | 6 => .send false 1 | 7 => .send false 2
  | 8 => .recv true 0 | 9 => .recv true 1 | 10 => .recv true 2
  | 11 => .recv false 0 | 12 => .recv false 1 | 13 => .recv false 2
theorem okind_inj : Function.Injective okind := by decide
theorem okind_map : Finset.univ.map ⟨okind, okind_inj⟩ = Finset.univ.erase Kind.bar := by decide
def osem (i : Fin 14) : SemLoc sig := csem (okind i)

theorem ownSemFacts : Pipeline.OwnSemFacts cfg0.spec osem := by decide

/-- A device's own semaphores and the barrier are its cells. -/
theorem sems_eq (c : Dev nD) :
    iprop(unscopedSems0 c ∗ Pipeline.ownSems0 (Ix := ℕ) (Name := ℕ) (U := UU) (Lvl := ℕ) (Val := Elt F) (τ := τ) osem c)
      = (bigSep Finset.univ fun k : Kind => semVal (cell c k) 0 : sProp 𝕄) := by
  rw [bigSep_univ_at _ Kind.bar, ← okind_map, bigSep_map]
  unfold unscopedSems0
  rw [bigSep_eq_bigSepL_of_eq [SemLoc.reg barS] (by decide) (by decide)]
  rfl

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k : Kind => iprop(∃ κ : ℕ, cellInv ER (rd m ρ) κ (cell c k)))
          ∗ (bigSep Finset.univ fun k : Kind => reached ER (cell c k) 0) ∗ ((bigSep Finset.univ fun k : Kind => atPos ER (cell c k) 0 ∅ 0)
          ∗ (bigSep Finset.univ fun δ : Bool => Deal δ c) ∗ slotsInv)) := by
  unfold G
  iintro ⟨Hos, Hus, Hst, Hat, Hr, Htk, HI⟩
  ihave Hv := (Entails.of_eq (sems_eq (F := F) c)) $$ [Hos Hus]
  · isplitl [Hus] <;> iassumption
  imod (show iprop((bigSep Finset.univ fun k : Kind => semVal (cell c k) 0) ∗ bigSep Finset.univ fun k : Kind => roundState ER (rd m ρ) (cell c k) 0)
      ⊢ (|={Set.univ}=> bigSep Finset.univ fun k : Kind => iprop(∃ κ : ℕ, cellInv ER (rd m ρ) κ (cell c k)) : sProp 𝕄) from by
        rw [← bigSep_sep']
        exact (bigSep_mono fun k _ => (Rounds.body_intro ER (rd m ρ) (cell c k)).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htk] <;> iassumption

/-- What all devices know, the levels aside. -/
def known : sProp 𝕄 :=
  iprop((∃ κ : Dev nD × Kind → ℕ, bigSep Finset.univ fun ck : Dev nD × Kind => cellInv ER (rd m ρ) (κ ck) (cell ck.1 ck.2))
    ∗ bigSep Finset.univ fun ck : Dev nD × Kind => reached ER (cell ck.1 ck.2) 0)
instance known_persistent : BI.Persistent (known m ρ) := by unfold known; infer_instance

def G' (c : Dev nD) : sProp 𝕄 :=
  iprop(known m ρ ∗ (bigSep Finset.univ fun k : Kind => atPos ER (cell c k) 0 ∅ 0) ∗ (bigSep Finset.univ fun δ : Bool => Deal δ c) ∗ slotsInv)

theorem regroup :
    (bigSep Finset.univ fun c : Dev nD => iprop((bigSep Finset.univ fun k : Kind => iprop(∃ κ : ℕ, cellInv ER (rd m ρ) κ (cell c k)))
          ∗ (bigSep Finset.univ fun k : Kind => reached ER (cell c k) 0) ∗ ((bigSep Finset.univ fun k : Kind => atPos ER (cell c k) 0 ∅ 0)
          ∗ (bigSep Finset.univ fun δ : Bool => Deal δ c) ∗ slotsInv)) : sProp 𝕄)
      ⊢ bigSep Finset.univ (G' m ρ) := by
  rw [bigSep_sep', bigSep_sep', ← bigSep_univ_prod (fun ck : Dev nD × Kind => iprop(∃ κ : ℕ, cellInv ER (rd m ρ) κ (cell ck.1 ck.2))),
    ← bigSep_univ_prod (fun ck : Dev nD × Kind => (reached ER (cell ck.1 ck.2) 0 : sProp 𝕄))]
  iintro ⟨HI, HR, HT⟩
  ihave HK := (BI.bigSep_exists_pi Finset.univ (fun (ck : Dev nD × Kind) (κ : ℕ) => (cellInv ER (rd m ρ) κ (cell ck.1 ck.2) : sProp 𝕄))) $$ HI
  iapply (BI.bigSep_with_persistent (R := known m ρ) fun c _ => show iprop(known m ρ ∗ _) ⊢ G' m ρ c from Entails.of_eq rfl)
  isplitl [HK HR]
  · unfold known; isplitl [HK] <;> iassumption
  iexact HT

theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

/-- Stream `δ`'s credits. -/
def Creds (δ : Bool) (c : Dev nD) : sProp 𝕄 :=
  iprop((bigSep (Finset.Ico 0 15) fun j => cred (tallyAt (cell c (.recv δ (sl (j + 1)))) j N)) ∗ bigSep (Finset.Ico 0 13) fun i => cred (tallyAt (cell c (.cred δ)) i 1))

theorem creds_owM (δ : Bool) (c : Dev nD) :
    (Pipeline.launchCred (fun d => owM δ d 0) c : sProp 𝕄) ⊢ bigSep (Finset.Ico 0 15) fun j => cred (tallyAt (cell c (.recv δ (sl (j + 1)))) j N) := by
  unfold owM
  rw [Pipeline.launchCred_sum (Finset.Ico 0 15) (fun j d => tallyAt (cell (nx δ d) (.recv δ (sl (j + 1)))) j N) c]
  exact bigSep_mono fun j _ => Pipeline.launchCred_tallyAt (csem (.recv δ (sl (j + 1)))) (nx δ) (pv δ) (nx_pv δ) (pv_nx δ) j N c
theorem creds_owC (δ : Bool) (c : Dev nD) :
    (Pipeline.launchCred (fun d => owC δ d 0) c : sProp 𝕄) ⊢ bigSep (Finset.Ico 0 13) fun i => cred (tallyAt (cell c (.cred δ)) i 1) := by
  unfold owC
  rw [Pipeline.launchCred_sum (Finset.Ico 0 13) (fun i d => tallyAt (cell (pv δ d) (.cred δ)) i 1) c]
  exact bigSep_mono fun i _ => Pipeline.launchCred_tallyAt (csem (.cred δ)) (pv δ) (nx δ) (pv_nx δ) (nx_pv δ) i 1 c
theorem creds_bar (δ : Bool) (c : Dev nD) :
    (Pipeline.launchCred (fun d => tallyAt (cell (pv δ d) .bar) 0 1) c : sProp 𝕄) ⊢ cred (tallyAt (cell c .bar) 0 1) :=
  Pipeline.launchCred_tallyAt (csem .bar) (pv δ) (nx δ) (pv_nx δ) (nx_pv δ) 0 1 c

theorem creds (c : Dev nD) :
    (Pipeline.launchCred owAll c : sProp 𝕄) ⊢ iprop(cred (tallyAt (cell c .bar) 0 2) ∗ Creds true c ∗ Creds false c) := by
  rw [show owAll = fun d => (((owM true d 0 + owM false d 0) + owC true d 0) + owC false d 0) + tallyAt (cell (pv false d) .bar) 0 1
      + tallyAt (cell (pv true d) .bar) 0 1 from rfl,
    Pipeline.launchCred_add, Pipeline.launchCred_add, Pipeline.launchCred_add, Pipeline.launchCred_add, Pipeline.launchCred_add]
  iintro ⟨⟨⟨⟨⟨H1, H2⟩, H3⟩, H4⟩, H5⟩, H6⟩
  unfold Creds
  isplitl [H5 H6]
  · rw [show (tallyAt (cell c .bar) 0 2 : CellTallies nD τ sig ℕ) = tallyAt (cell c .bar) 0 1 + tallyAt (cell c .bar) 0 1 from (tallyAt_add _ _ 1 1).symm]
    iapply (cred_add _ _).2
    isplitl [H5]; · iapply (creds_bar (F := F) false c); iexact H5
    iapply (creds_bar (F := F) true c); iexact H6
  isplitl [H1 H3]
  · isplitl [H1]; · iapply (creds_owM (F := F) true c); iexact H1
    iapply (creds_owC (F := F) true c); iexact H3
  · isplitl [H2]; · iapply (creds_owM (F := F) false c); iexact H2
    iapply (creds_owC (F := F) false c); iexact H4

/-! ## A device's start -/

theorem str_intro (δ : Bool) (c : Dev nD) :
    iprop((bigSep Finset.univ fun ck : Dev nD × Kind => reached ER (cell ck.1 ck.2) 0) ∗ KS δ (fun k => atPos ER (cell c k) 0 ∅ 0) ∗ Deal δ c ∗ Creds δ c)
      ⊢ (iprop(dutyTok ER (cell (pv δ c) .bar) 0 (bd δ) ∗ Str δ c) : sProp 𝕄) := by
  have hre : ∀ k : Kind, (bigSep Finset.univ fun ck : Dev nD × Kind => (reached ER (cell ck.1 ck.2) 0 : sProp 𝕄)) ⊢ reached ER (cell c k) 0 :=
    fun k => bigSep_elim (Φ := fun ck : Dev nD × Kind => (reached ER (cell ck.1 ck.2) 0 : sProp 𝕄)) (Finset.mem_univ (c, k))
  have hsp : ∀ j, j < 3 → iprop((bigSep Finset.univ fun ck : Dev nD × Kind => reached ER (cell ck.1 ck.2) 0) ∗ atPos ER (cell c (.send δ (sl j))) 0 ∅ 0)
      ⊢ (sp δ c j : sProp 𝕄) := fun j hj => by
    unfold sp; rw [Nat.div_eq_of_lt hj]
    iintro ⟨#HR, Ha⟩
    isplitl; · iexact Ha
    iapply (hre _); iexact HR
  have hrp : ∀ j, j < 3 → iprop((bigSep Finset.univ fun ck : Dev nD × Kind => reached ER (cell ck.1 ck.2) 0) ∗ atPos ER (cell c (.recv δ (sl (j + 1)))) 0 ∅ 0)
      ⊢ (rp δ c j : sProp 𝕄) := fun j hj => by
    unfold rp; rw [Nat.div_eq_of_lt hj]
    iintro ⟨#HR, Ha⟩
    isplitl; · iexact Ha
    iapply (hre _); iexact HR
  have s3 : sl (2 + 1) = 0 := (sl_add 0).trans sl_nums.1
  have hsp0 := hsp 0 (by omega)
  have hsp1 := hsp 1 (by omega)
  have hsp2 := hsp 2 (by omega)
  have hrp0 := hrp 0 (by omega)
  have hrp1 := hrp 1 (by omega)
  have hrp2 := hrp 2 (by omega)
  rw [sl_nums.1] at hsp0
  rw [sl_nums.2.1] at hsp1
  rw [sl_nums.2.2] at hsp2
  rw [show (0 : ℕ) + 1 = 1 from rfl, sl_nums.2.1] at hrp0
  rw [show (1 : ℕ) + 1 = 2 from rfl, sl_nums.2.2] at hrp1
  rw [s3] at hrp2
  have hT : bigSep Finset.univ (dtok (F := F) δ c) = iprop(dutyTok ER (cell (pv δ c) .bar) 0 (bd δ)
      ∗ (bigSep (Finset.Ico 0 15) fun j => dutyTok ER (cell c (.send δ (sl j))) (j / 3) 0)
      ∗ (bigSep (Finset.Ico 0 15) fun j => dutyTok ER (cell (nx δ c) (.recv δ (sl (j + 1)))) (j / 3) 0)
      ∗ bigSep (Finset.Ico 0 13) fun i => dutyTok ER (cell (pv δ c) (.cred δ)) 0 i) := by
    rw [bigSep_univ_sum, bigSep_univ_sum, bigSep_univ_sum, bigSep_univ_of_subsingleton (0 : Fin 1), ← bigSep_fin 15, ← bigSep_fin 15, ← bigSep_fin 13]
    rfl
  have hR : (bigSep Finset.univ fun t : Fin 3 => (readerAt ES (c, δ, t) 0 : sProp 𝕄)) = iprop(rr δ c 0 ∗ rr δ c (0 + 1) ∗ rr δ c (0 + 2)) := by
    rw [Ring.bigSep_fin3]
    unfold rr
    rw [show sl (0 + 1) = 1 from sl_nums.2.1, show sl (0 + 2) = 2 from sl_nums.2.2, sl_nums.1]
  unfold KS Deal Creds
  rw [hT, hR, bigSep_fin 13 (wtok δ c)]
  iintro ⟨#HR, ⟨Hc, ⟨Hs0, Hs1, Hs2⟩, ⟨Hr0, Hr1, Hr2⟩⟩, ⟨⟨HtB, HtS, HtR, HtC⟩, Hrd, Hwr⟩, ⟨HcR, HcC⟩⟩
  isplitl [HtB]; · iexact HtB
  unfold Str
  isplitl [Hs0 Hs1 Hs2 Hr0 Hr1 Hr2 HtS HtR HcR]
  · isplitl [Hs0 Hs1 Hs2]
    · isplitl [Hs0]
      · iapply hsp0; isplitr; · iexact HR
        iexact Hs0
      isplitl [Hs1]
      · iapply hsp1; isplitr; · iexact HR
        iexact Hs1
      iapply hsp2; isplitr; · iexact HR
      iexact Hs2
    isplitl [Hr0 Hr1 Hr2]
    · isplitl [Hr1]
      · iapply hrp0; isplitr; · iexact HR
        iexact Hr1
      isplitl [Hr2]
      · iapply hrp1; isplitr; · iexact HR
        iexact Hr2
      iapply hrp2; isplitr; · iexact HR
      iexact Hr0
    unfold mtok
    rw [bigSep_sep', bigSep_sep']
    isplitl [HtS]; · iexact HtS
    isplitl [HtR] <;> iassumption
  isplitl [Hrd HtC]
  · isplitl [Hrd]; · iexact Hrd
    unfold stok; iexact HtC
  isplitl [Hc]; · iexact Hc
  unfold ctok
  rw [bigSep_sep']
  isplitl [HcC]; · iexact HcC
  unfold wtok; iexact Hwr

/-- What a device's body starts from, its buffers and what it owes aside. -/
def start (c : Dev nD) : sProp 𝕄 := iprop((∃ κ ν, recs m ρ κ ν) ∗ Bar c ∗ (Str true c ∗ Str false c))

theorem start_intro (c : Dev nD) :
    iprop(Pipeline.unscopedRestP Pipeline.Prefetch.none cfg0.spec c (fun b => m ((c : Thread nD τ).loc b)) ∗ levAts L lv
        ∗ Pipeline.launchCred owAll c ∗ prngReg c (ρ c) ∗ G' m ρ c)
      ⊢ |={Set.univ}=> iprop(start m ρ c ∗ emp) := by
  unfold G'
  have hD : (bigSep Finset.univ fun δ : Bool => Deal δ c) = (iprop(Deal true c ∗ Deal false c) : sProp 𝕄) :=
    bigSep_univ_eq_bigSepL [true, false] (by decide) (by decide) _
  rw [kinds_eq, hD]
  unfold known slotsInv
  iintro ⟨-, #Hlev, Hcr, -, ⟨⟨%κ, #HI⟩, #HR⟩, ⟨HaB, HaT, HaF⟩, ⟨HdT, HdF⟩, ⟨%ν, #HS⟩⟩
  ihave Hc := (creds (F := F) c) $$ Hcr
  icases Hc with ⟨HcB, HcT, HcF⟩
  ihave HT := (str_intro (F := F) true c) $$ [HaT HdT HcT]
  · isplitr; · iexact HR
    isplitl [HaT]; · iexact HaT
    isplitl [HdT] <;> iassumption
  ihave HF := (str_intro (F := F) false c) $$ [HaF HdF HcF]
  · isplitr; · iexact HR
    isplitl [HaF]; · iexact HaF
    isplitl [HdF] <;> iassumption
  icases HT with ⟨HbT, HT⟩
  icases HF with ⟨HbF, HF⟩
  imodintro
  unfold start Bar recs levs
  isplitl
  · isplitr
    · iexists κ; iexists ν
      isplitr; · iexact HI
      isplitr; · iexact HS
      isplitr; · iexact HR
      iexact Hlev
    isplitl [HbT HbF HcB HaB]
    · isplitl [HbT HbF]
      · isplitl [HbT] <;> iassumption
      isplitl [HcB] <;> iassumption
    isplitl [HT] <;> iassumption
  · iempintro

end Cert.RingGemm

end
-- ==== Proof.Run.lean ====
/-
The pipeline data, the body obligation and the run.
-/
module

public import Idealize.ShloMosaic.Lib.Pipeline.CollectiveSegs
public import proofs.«01_k».proof.Proof.Launch

@[expose] public section

set_option maxRecDepth 20000

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The pipeline's data -/

def Φ₀ (c : Dev nD) : sProp 𝕄 := iprop(start m ρ c ∗ (comm true c ∗ comm false c))
/-- After the body: the comm buffers, and every semaphore at zero. -/
def Φ₁ (c : Dev nD) : sProp 𝕄 := iprop((comm true c ∗ comm false c) ∗ semVal (cell c .bar) 0 ∗ (Zero true c ∗ Zero false c))

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outV m ρ c
  Φ t := match t with
    | ⟨0, _⟩ => Φ₀ m ρ c
    | ⟨_ + 1, _⟩ => Φ₁ (F := F) c
  q _ := fullShare
  owed t := match t with
    | ⟨0, _⟩ => owAll c
    | ⟨_ + 1, _⟩ => 0

theorem owns_whole (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ (F := F) c ∗ (dats m ρ 0 c).owesAt 0 t0_0.succ ∗ stg c cc0_stg0_0 (xstg m ρ c) ∗ stg c cc0_stg1_0 (wstg m ρ c) ∗ stg c cc0_stg2_0 (outV m ρ c))

theorem sound_body (c : Dev nD) :
    bodyPre m ρ c ⊢ wpc (F := F) c (cc0_body xM (Memref.isWhole_whole _) wM (Memref.isWhole_whole _) oM (Memref.isWhole_whole _)
      (Memref.whole cc0_scratch0) (Memref.isWhole_whole _) (Memref.whole cc0_scratch1) (Memref.isWhole_whole _)
      cc0_scratch2 cc0_scratch3 cc0_scratch4 cc0_scratch5 cc0_scratch6 cc0_scratch7) (fun _ => bodyPost m ρ c) := by
  rw [body_eq]
  unfold wpc
  rw [wp_deviceId]
  unfold bodyPre Φ₀ start
  iintro ⟨⟨⟨⟨%κ, %ν, #HR⟩, HB, HS⟩, Hcm⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  subst hx
  subst hw
  unfold Dat.owesAt Pipeline.owesWithin
  icases Ho with ⟨%W, %hW, HO⟩
  rw [show (dats m ρ 0 c).owed t0_0.castSucc = owAll c from rfl]
  iapply (wp_body m ρ κ ν c fun _ => bodyPost m ρ c) $$ [HB HS Hcm Hx Hw Hout HO]
  · isplitr; · iexact HR
    unfold bodyIn xHeld wHeld outHeld owing
    isplitl [Hx]; · iexact Hx
    isplitl [Hw]; · iexact Hw
    isplitl [Hout]
    · iexists g2
      isplitr; · ipureintro; exact good_none m ρ c g2
      iexact Hout
    isplitl [Hcm]; · iexact Hcm
    isplitl [HO]; · iexists W; iexact HO
    isplitl [HB] <;> iassumption
  unfold bodyOut bodyPost Φ₁ xHeld wHeld owing Dat.owesAt Pipeline.owesWithin
  rw [show (dats m ρ 0 c).owed t0_0.succ = 0 from rfl]
  iintro ⟨Hx, Hw, Hout, Hcm, ⟨%W', HO⟩, HzB, HZ⟩
  imodintro
  isplitl [Hcm HzB HZ]
  · isplitl [Hcm]; · iexact Hcm
    isplitl [HzB] <;> iassumption
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

theorem body_obligation (c : Dev nD) : BodyObligation (dats (F := F) m ρ 0 c) (defs₀ (F := F)) 𝒱₀ 0 Set.univ := fun t => by
  rw [fin_N0 t]
  rw [bigSep_W0, bigSep_W0]
  simp only [owns_whole]
  exact sound_body m ρ c

/-! ## The theorem's side conditions -/

theorem share_eq (c : Dev nD) (w : Fin cfg0.W) : (dats m ρ 0 c).share w = fullShare := by unfold Dat.share; split <;> rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁
  iintro ⟨Hr, Hz⟩
  ihave Hz' := (Entails.of_eq ((show _ = iprop(semVal (cell c .bar) 0 ∗ (Zero true c ∗ Zero false c)) from kinds_eq (F := F) fun k => semVal (cell c k) 0).symm.trans (sems_eq c).symm)) $$ Hz
  icases Hz' with ⟨Hu, Ho⟩
  isplitl [Hu]; · iexact Hu
  isplitl [Ho]; · iexact Ho
  iexact Hr

theorem above_owAll (c : Dev nD) : Above 0 (owAll c) := by
  unfold owAll ow
  refine above_add (above_add (above_add (above_add (above_add ?_ ?_) ?_) ?_) ?_) ?_
  · exact above_owM true c (by decide)
  · exact above_owM false c (by decide)
  · exact above_owC true c (by decide)
  · exact above_owC false c (by decide)
  · exact above_tally _ .bar 0 1 (by decide) (by decide)
  · exact above_tally _ .bar 0 1 (by decide) (by decide)

theorem stage_ne : ∀ (w : Fin 3) (s : Fin (cfg0.win w).nbuf) (k : Kind), csem k ≠ .dma ((cfg0.win w).sem s) := by decide
theorem lv_stage (c : Dev nD) (w : Fin 3) (s : Fin (cfg0.win w).nbuf) (i : ℕ) : lv ((c : Thread nD τ), .dma ((cfg0.win w).sem s)) i = 0 := by
  unfold lv kof
  rw [if_pos rfl]
  unfold Function.partialInv
  rw [dif_neg (fun ⟨k, hk⟩ => stage_ne w s k hk)]
  rfl

theorem waits (c : Dev nD) : (levAts L lv : sProp 𝕄) ⊢ Pipeline.cellsWaits cfgs (dats m ρ) 0 0 c :=
  Pipeline.cellsWaits_intro cfgs (dats m ρ) 0 0 c fun w s t =>
    mayWait (F := F) c _ 0 (by decide) _ (by
      rw [show lv _ 0 = 0 from lv_stage c w s 0]
      rcases t with ⟨_ | _, ht⟩
      · exact above_owAll c
      · exact above_zero 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- For any float values, from any memory with zero counters: every weakly fair execution of the sixteen devices' kernels
    ends, every array of every device as computed and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owAll) (howed₀ := fun _ => rfl) (howedN := fun _ => rfl)
    (L := L) (lv := lv) (hL := L_of_ne) (hwaits := waits m ρ)
    (G := G m ρ) (G' := G' m ρ) (u₀ := u₀)
    (hu₀ := fund m ρ)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The rows and the weights are left as they were. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.RingGemm

end
-- ==== Proof.Out.lean ====
/-
What the run leaves in the arrays: the arguments as they were, the result as computed.
-/
module

public import proofs.«01_k».proof.Proof.Run
public import Idealize.ShloMosaic.Lib.Pipeline.ValueKit.Geometry

@[expose] public section

set_option maxRecDepth 20000

noncomputable section

namespace Cert.RingGemm

open Cert.KernelIdeal Cert.KernelIdeal.Gen
open Idealize.ShloMosaic
open Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- The result array holds what the body left in its staging buffer. -/
theorem finalA_o (c : Dev nD) : finalA m ρ c (2 : Fin 3) = outV m ρ c :=
  Dat.arrAt_eq_of_after_last (dats (F := F) m ρ 0 c) (2 : Fin 3) t0_0 (by decide +kernel) (outV m ρ c) fun j => rfl

/-- The staged rows are the device's whole block of the argument, the staged weights likewise. -/
theorem xstg_eq (c : Dev nD) : xstg m ρ c = m ((c.tc : Thread nD τ).loc main_arg0) := by
  have hz : (fun a => win0_0.index (0 : Fin 1) a * main_arg0.ty.shape.size a) = fun _ => 0 := funext fun a => by fin_cases a <;> decide
  exact Memref.read_access_unit_zero (Elt F) main_arg0 hz (fun a => by rw [congrFun hz a]; simp) _
theorem wstg_eq (c : Dev nD) : wstg m ρ c = m ((c.tc : Thread nD τ).loc main_arg1) := by
  have hz : (fun a => win0_1.index (0 : Fin 1) a * main_arg1.ty.shape.size a) = fun _ => 0 := funext fun a => by fin_cases a <;> decide
  exact Memref.read_access_unit_zero (Elt F) main_arg1 hz (fun a => by rw [congrFun hz a]; simp) _

/-- The run, read at the program's arrays. -/
theorem run_arrays : θ_run defs (onTc (τ := τ) (main (F := F))) ⟨m, fun _ => 0, ρ⟩ fun r =>
    (∀ c : Dev nD, r.2.mem ((c.tc : Thread nD τ).loc main_v1) = outV m ρ c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  (θ_run defs _ _).mono (fun _ h => ⟨fun c => ⟨(h.1 c (2 : Fin 3)).trans (finalA_o m ρ c),
    (h.1 c (0 : Fin 3)).trans (finalA_x m ρ c), (h.1 c (1 : Fin 3)).trans (finalA_w m ρ c)⟩, h.2⟩) (run_main m ρ)

end Cert.RingGemm

end
-- ==== Proof.Frames.lean ====
/-
The three runs end, change no argument and leave every semaphore counter at zero.
-/
module

public import proofs.«01_k».proof.Proof.Out
public import proofs.«01_k».proof.Defs
public import proofs.«01_k».proof.Proof.Gen.Kernel
public import proofs.«01_k».proof.Proof.Gen.KernelIdeal
public import proofs.«01_k».proof.Proof.Gen.ReferenceIdeal.Run
public import Idealize.ShloMosaic.Lib.Quiescent

@[expose] public section

set_option maxRecDepth 20000

noncomputable section

namespace Cert.RingGemm

open Idealize.ShloMosaic Idealize.ShloMosaic.TcCoe Idealize.SL.Sem

/-- At the ideal values. -/
theorem frame_kernelIdeal : Cert.quiescent_KernelIdeal := fun m ρ _ =>
  (θ_run Cert.KernelIdeal.defs _ _).mono (fun _ h => ⟨fun c => (h.1 c).2, h.2⟩) (run_arrays (F := Ideal) m ρ)

/-- The two printings of the kernel have one table of bodies. -/
theorem bodies_eq : Cert.Kernel.defs₀ (F := Bits) = Cert.KernelIdeal.defs₀ (F := Bits) := by
  unfold Cert.Kernel.defs₀ Cert.KernelIdeal.defs₀
  refine congrArg Defs.onTc (funext fun ℓ => funext fun a => ?_)
  match ℓ, a with
  | ⟨0, _⟩, (t, s) => rfl
theorem table_eq : Cert.Kernel.defs (F := Bits) = Cert.KernelIdeal.defs (F := Bits) :=
  congrArg (Pipeline.defs Cert.KernelIdeal.pcfgs) bodies_eq

/-- At words: the same program, the same run. -/
theorem frame_kernel : Cert.quiescent_Kernel := fun m ρ _ => by
  rw [table_eq]
  exact (θ_run (Cert.KernelIdeal.defs (F := Bits)) _ _).mono (fun _ h => ⟨fun c => (h.1 c).2, h.2⟩) (run_arrays (F := Bits) m ρ)

/-- The reference has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.RingGemm

end
-- ==== Proof.Value.lean ====
/-
Over the extended reals: each element of the result is the activation of the same dot product the reference takes, and a
device's block of columns of the reference's result is what that device computes.
-/
module

public import proofs.«01_k».proof.Proof.Frames
public import Idealize.ShloMosaic.Lib.Pipeline.Value
public import Idealize.ShloMosaic.Lib.MatmulPlain
public import Idealize.ShloMosaic.Lib.StackMember
public import Idealize.ShloMosaic.Lib.IdealHost
public import Idealize.ShloMosaic.Lib.Layout

@[expose] public section

set_option maxRecDepth 20000

noncomputable section

namespace Cert.RingGemm

open Cert.KernelIdeal Cert.KernelIdeal.Gen
open Idealize.ShloMosaic Idealize.ShloMosaic.TcCoe Idealize.SL.Sem

/-! ## The activation -/

/-- The activation, its four numbers as both programs write them. -/
def act (y : EReal) : EReal :=
  Ideal.ofBits .f32 0x3F000000#32 * y
    * (Ideal.ofBits .f32 0x3F800000#32
      + Ideal.tanh (Ideal.ofBits .f32 0x3F4C422A#32 * (y + Ideal.ofBits .f32 0x3D372713#32 * (y * y * y))))

/-- The kernel multiplies the cubic term from the left. -/
theorem act_left (y : EReal) :
    Ideal.ofBits .f32 0x3F000000#32 * y
      * (Ideal.ofBits .f32 0x3F800000#32
        + Ideal.tanh (Ideal.ofBits .f32 0x3F4C422A#32 * (y + Ideal.ofBits .f32 0x3D372713#32 * y * y * y))) = act y := by
  unfold act
  rw [mul_assoc (Ideal.ofBits .f32 0x3D372713#32) y y, mul_assoc (Ideal.ofBits .f32 0x3D372713#32) (y * y) y]

/-! ## The kernel's block -/

/-- A block of the result at an element: the activation of the row's product with the column. -/
theorem gemm_apply (v : Vec Ideal S1x256x8192 .bf16) (w : Vec Ideal S8192x256 .f32) (r : Fin 256) (l : Fin 256) :
    gemm v w (ix2 r l) = act (∑ k : Fin 8192, v (ix3 (0 : Fin 1) r k) * w (ix2 k l)) := by
  have hp : (matmul dot_S256x8192_S8192x256_S256x256_1_0_0_1_n_n none
        (extf .f32 (shapeCast S256x8192 v shapeCasts_S1x256x8192_S256x8192) bitsLt_bf16_f32 : FVec Ideal S256x8192 .f32)
        (shapeCast S8192x256 w shapeCasts_S8192x256_S8192x256 : FVec Ideal S8192x256 .f32) (constant S256x256 .f32 0x00000000#32) : FVec Ideal S256x256 .f32) (ix2 r l)
      = ∑ k : Fin 8192, v (ix3 (0 : Fin 1) r k) * w (ix2 k l) := by
    refine (Idealize.ShloMosaic.Ideal.matmul_plain_apply (M := 256) (K := 8192) (N := 256) none _ _ _ r l).trans ?_
    rw [shapeCast_self]
    refine (congrArg (· + _) (show _ = (0 : EReal) from Ideal.ofBits_zero_f32)).trans ?_
    rw [zero_add]
    refine Finset.sum_congr rfl fun k _ => congrArg (· * _) ?_
    refine (shapeCast_dropUnit_apply ![256, 8192] v _ (ix2 r k)).trans (congrArg v ?_)
    funext a
    match a with
    | ⟨0, _⟩ => rfl
    | ⟨1, _⟩ => rfl
    | ⟨2, _⟩ => rfl
  refine Eq.trans ?_ (act_left _)
  rw [← hp]
  rfl

/-- What a stream carries of a device, at an element: the row's element, of the half the stream takes. -/
theorem chunk_apply (m : (ℓ : Loc nD τ sig) → Buf (Elt Ideal) ℓ) (ρ : Dev nD → PrngReg) (δ : Bool) (o : Dev nD) (r : Fin 256) (k : Fin 8192)
    (hr : (if δ then 0 else 256) + r.val < 512) :
    chunk m ρ δ o (ix3 (0 : Fin 1) r k) = xstg m ρ o (ix2 (n0 := 512) (n1 := 8192) ⟨(if δ then 0 else 256) + r.val, hr⟩ k) := by
  have hs : ∀ z : Vec Ideal S256x8192 .f32, k0_pay2 z (ix3 (0 : Fin 1) r k) = z (ix2 r k) := by
    intro z
    unfold k0_pay2
    refine (shapeCast_addUnit_apply ![256, 8192] _ _ (ix3 (0 : Fin 1) r k)).trans ?_
    rw [shapeCast_self]
    show z _ = z _
    refine congrArg z (funext fun a => ?_)
    match a with
    | ⟨0, _⟩ => rfl
    | ⟨1, _⟩ => rfl
  cases δ
  · refine (hs _).trans (congrArg (xstg m ρ o) (funext fun a => Fin.ext ?_))
    match a with
    | ⟨0, _⟩ => show 256 + 1 * r.val = 256 + r.val; omega
    | ⟨1, _⟩ => show 0 + 1 * k.val = k.val; omega
  · refine (hs _).trans (congrArg (xstg m ρ o) (funext fun a => Fin.ext ?_))
    match a with
    | ⟨0, _⟩ => show 0 + 1 * r.val = 0 + r.val; omega
    | ⟨1, _⟩ => show 0 + 1 * k.val = k.val; omega

/-! ## The reference -/

/-- The reference's result from its arguments. -/
abbrev refV (X : FVec Ideal Cert.ReferenceIdeal.S8192x8192 .f32) (W : FVec Ideal Cert.ReferenceIdeal.S8192x4096 .f32) :
    FVec Ideal Cert.ReferenceIdeal.S8192x4096 .f32 := fun i => act (Host.dotGeneral (F := Ideal) (DotDims.plain 8192 8192 4096) none X W i)

theorem refV_apply (X : FVec Ideal Cert.ReferenceIdeal.S8192x8192 .f32) (W : FVec Ideal Cert.ReferenceIdeal.S8192x4096 .f32)
    (r : Fin 8192) (l : Fin 4096) : refV X W (ix2 r l) = act (∑ k : Fin 8192, X (ix2 r k) * W (ix2 k l)) :=
  congrArg act (StackMember.dotGeneral_plain_apply (m := 8192) (k := 8192) (n := 4096) none X W r l)

/-! ## Block by block -/

/-- Given each device its rows and its columns, device `c` computes its columns of the reference's result. -/
theorem outV_eq (m : (ℓ : Loc nD τ sig) → Buf (Elt Ideal) ℓ) (ρ : Dev nD → PrngReg) (X : FVec Ideal Cert.ReferenceIdeal.S8192x8192 .f32)
    (W : FVec Ideal Cert.ReferenceIdeal.S8192x4096 .f32)
    (hx : ∀ c : Dev nD, m ((c.tc : Thread nD τ).loc main_arg0) = Layout.block ⟨2, ![512, 8192]⟩ ⟨2, ![8192, 8192]⟩ 0 16 c X)
    (hw : ∀ c : Dev nD, m ((c.tc : Thread nD τ).loc main_arg1) = Layout.block ⟨2, ![8192, 256]⟩ ⟨2, ![8192, 4096]⟩ 1 16 c W)
    (c : Dev nD) : outV m ρ c = Layout.block ⟨2, ![8192, 256]⟩ ⟨2, ![8192, 4096]⟩ 1 16 c (refV X W) := by
  refine funext fun (i : S8192x256.Idx) => ?_
  have hi : (i 0).val < 8192 := (i 0).isLt
  have hl : (i 1).val < 256 := (i 1).isLt
  have hc : c.val < 16 := c.isLt
  have hR : (Layout.block ⟨2, ![8192, 256]⟩ ⟨2, ![8192, 4096]⟩ 1 16 c (refV X W) : S8192x256.Idx → EReal) i
      = refV X W (ix2 (n0 := 8192) (n1 := 4096) ⟨(i 0).val, hi⟩ ⟨c.val * 256 + (i 1).val, by omega⟩) := by
    rw [Layout.block_apply]
    refine congrArg (refV X W) (funext fun a => Fin.ext ?_)
    match a with
    | ⟨0, _⟩ => rfl
    | ⟨1, _⟩ => rfl
  refine Eq.trans ?_ hR.symm
  rw [refV_apply]
  unfold outV
  rw [gemm_apply]
  refine congrArg act (Finset.sum_congr rfl fun k _ => ?_)
  have hh : (if decide ((i 0).val % 512 < 256) then 0 else 256) + (i 0).val % 256 < 512 := by split <;> omega
  rw [chunk_apply m ρ _ _ _ k hh, xstg_eq, wstg_eq, hx, hw, Layout.block_apply, Layout.block_apply]
  refine congrArg₂ (· * ·) (congrArg X (funext fun a => Fin.ext ?_)) (congrArg W (funext fun a => Fin.ext ?_))
  · match a with
    | ⟨0, _⟩ =>
      show (i 0).val / 512 * 512 + ((if decide ((i 0).val % 512 < 256) then 0 else 256) + (i 0).val % 256) = (i 0).val
      by_cases hb : (i 0).val % 512 < 256
      · rw [if_pos (decide_eq_true hb)]; omega
      · rw [if_neg (by simpa using hb)]; omega
    | ⟨1, _⟩ => rfl
  · match a with
    | ⟨0, _⟩ => rfl
    | ⟨1, _⟩ => rfl

/-! ## The claim -/

theorem value : Cert.algebraic_KernelIdeal_ReferenceIdeal := fun m ρ m' ρ' _ h =>
  ⟨refV (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ hr c => ⟨(hr.1 c).1.trans (outV_eq m ρ _ _ (fun c => (h c).1) (fun c => (h c).2) c), (hr.1 c).2⟩)
      (run_arrays (F := Ideal) m ρ),
    (θ_run Cert.ReferenceIdeal.defs _ _).mono (fun _ hr => ⟨(hr 0).1.trans rfl, (hr 0).2⟩) (Cert.ReferenceIdeal.Value.run (F := Ideal) m' ρ')⟩

end Cert.RingGemm

end
-- ==== Proof.lean ====
module

public import proofs.«01_k».proof.Defs
public import proofs.«01_k».proof.Proof.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.RingGemm.frame_kernel, Cert.RingGemm.frame_kernelIdeal, Cert.RingGemm.frame_reference, trivial, Cert.RingGemm.value⟩

end Cert.Proof

end
